-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonzero [hPre_finite_and_nonzero : Cert.Pre_finite_and_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonzero [hPre_finite_and_nonzero : Cert.Pre_finite_and_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_nonzero [hKernelIdeal : Cert.KernelIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_nonzero [hReferenceIdeal : Cert.ReferenceIdeal.Facts] [hPre_finite_and_nonzero : Cert.Pre_finite_and_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_and_nonzero [hKernelIdeal : Cert.KernelIdeal.Facts] [hReferenceIdeal : Cert.ReferenceIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_nonzero : Cert.Pre_finite_and_nonzero.Facts),
    quiescent_Kernel (hKernel := hKernel)
    ∧ quiescent_KernelIdeal (hKernelIdeal := hKernelIdeal)
    ∧ quiescent_KernelIdeal_pre_finite_and_nonzero (hKernelIdeal := hKernelIdeal) (hPre_finite_and_nonzero := hPre_finite_and_nonzero)
    ∧ quiescent_ReferenceIdeal (hReferenceIdeal := hReferenceIdeal)
    ∧ quiescent_ReferenceIdeal_pre_finite_and_nonzero (hReferenceIdeal := hReferenceIdeal) (hPre_finite_and_nonzero := hPre_finite_and_nonzero)
    ∧ preserves_Kernel_KernelIdeal
    ∧ algebraic_KernelIdeal_ReferenceIdeal_pre_finite_and_nonzero (hKernelIdeal := hKernelIdeal) (hReferenceIdeal := hReferenceIdeal) (hPre_finite_and_nonzero := hPre_finite_and_nonzero)
-- ==== Pre_finite_and_nonzero.lean ====
abbrev S256x768 : Shape := ⟨2, ![256, 768]⟩
abbrev S768x512 : Shape := ⟨2, ![768, 512]⟩
abbrev S1000x5x512 : Shape := ⟨3, ![1000, 5, 512]⟩
abbrev S1000x72x512 : Shape := ⟨3, ![1000, 72, 512]⟩
abbrev S512 : Shape := ⟨1, ![512]⟩
abbrev S512x512 : Shape := ⟨2, ![512, 512]⟩
abbrev S1 : Shape := ⟨1, ![1]⟩
abbrev S256x512 : Shape := ⟨2, ![256, 512]⟩
abbrev S1000x77x512 : Shape := ⟨3, ![1000, 77, 512]⟩
abbrev S_ : Shape := ⟨0, ![]⟩
abbrev S1000x77 : Shape := ⟨2, ![1000, 77]⟩
abbrev S1000x77x1 : Shape := ⟨3, ![1000, 77, 1]⟩
abbrev S1x1x512 : Shape := ⟨3, ![1, 1, 512]⟩
abbrev S1000x77x8x64 : Shape := ⟨4, ![1000, 77, 8, 64]⟩
abbrev S1000x8x77x77 : Shape := ⟨4, ![1000, 8, 77, 77]⟩
abbrev S1000x8x77 : Shape := ⟨3, ![1000, 8, 77]⟩
abbrev S1000x8x77x1 : Shape := ⟨4, ![1000, 8, 77, 1]⟩
abbrev S1000x8x64x77 : Shape := ⟨4, ![1000, 8, 64, 77]⟩
abbrev S1000x1x77x77 : Shape := ⟨4, ![1000, 1, 77, 77]⟩
abbrev S1000x1x1x5 : Shape := ⟨4, ![1000, 1, 1, 5]⟩
abbrev S1000x1x5 : Shape := ⟨3, ![1000, 1, 5]⟩
abbrev S1000x1 : Shape := ⟨2, ![1000, 1]⟩
abbrev S1000x1x1 : Shape := ⟨3, ![1000, 1, 1]⟩
abbrev S1000x5 : Shape := ⟨2, ![1000, 5]⟩
abbrev S1000x5x1 : Shape := ⟨3, ![1000, 5, 1]⟩
abbrev S1000x1x512 : Shape := ⟨3, ![1000, 1, 512]⟩
abbrev S1000x512 : Shape := ⟨2, ![1000, 512]⟩
abbrev S256 : Shape := ⟨1, ![256]⟩
abbrev S1000 : Shape := ⟨1, ![1000]⟩

class Facts : Prop where
  concatenates_S1000x5x512_S1000x72x512_S1000x77x512_d1 : Shape.Concatenates [S1000x5x512, S1000x72x512] S1000x77x512 1
  reducesTo_S1000x77x512_S1000x77_d2 : S1000x77x512.ReducesTo [2] S1000x77
  h_S_ : 0 < S_.numel
  bcast_S1000x77_S1000x77x1_0_1 : S1000x77.BroadcastsInDim S1000x77x1 (![0, 1] : Fin 2 → Fin S1000x77x1.rank)
  bcast_S_S1000x77x1 : S_.BroadcastsInDim S1000x77x1 (![] : Fin 0 → Fin S1000x77x1.rank)
  bcast_S1000x77x1_S1000x77x512_0_1_2 : S1000x77x1.BroadcastsInDim S1000x77x512 (![0, 1, 2] : Fin 3 → Fin S1000x77x512.rank)
  bcast_S512_S1x1x512_2 : S512.BroadcastsInDim S1x1x512 (![2] : Fin 1 → Fin S1x1x512.rank)
  bcast_S1x1x512_S1000x77x512_0_1_2 : S1x1x512.BroadcastsInDim S1000x77x512 (![0, 1, 2] : Fin 3 → Fin S1000x77x512.rank)
  shapeCasts_S1000x77x512_S1000x77x8x64 : S1000x77x512.ShapeCasts S1000x77x8x64
  bcast_S_S1000x8x77x77 : S_.BroadcastsInDim S1000x8x77x77 (![] : Fin 0 → Fin S1000x8x77x77.rank)
  reducesTo_S1000x8x77x77_S1000x8x77_d3 : S1000x8x77x77.ReducesTo [3] S1000x8x77
  bcast_S_S1000x8x77 : S_.BroadcastsInDim S1000x8x77 (![] : Fin 0 → Fin S1000x8x77.rank)
  bcast_S1000x8x77_S1000x8x77x1_0_1_2 : S1000x8x77.BroadcastsInDim S1000x8x77x1 (![0, 1, 2] : Fin 3 → Fin S1000x8x77x1.rank)
  bcast_S1000x8x77x1_S1000x8x77x77_0_1_2_3 : S1000x8x77x1.BroadcastsInDim S1000x8x77x77 (![0, 1, 2, 3] : Fin 4 → Fin S1000x8x77x77.rank)
  transposes_S1000x8x64x77_S1000x77x8x64_0_3_1_2 : S1000x8x64x77.Transposes [0, 3, 1, 2] S1000x77x8x64
  shapeCasts_S1000x77x8x64_S1000x77x512 : S1000x77x8x64.ShapeCasts S1000x77x512
  slices_S1000x8x77x77_S1000x1x77x77_0_0_0_0 : S1000x8x77x77.Slices ![0, 0, 0, 0] S1000x1x77x77
  bcast_S_S1000x1x77x77 : S_.BroadcastsInDim S1000x1x77x77 (![] : Fin 0 → Fin S1000x1x77x77.rank)
  slices_S1000x8x77x77_S1000x1x77x77_0_1_0_0 : S1000x8x77x77.Slices ![0, 1, 0, 0] S1000x1x77x77
  slices_S1000x8x77x77_S1000x1x77x77_0_2_0_0 : S1000x8x77x77.Slices ![0, 2, 0, 0] S1000x1x77x77
  slices_S1000x8x77x77_S1000x1x77x77_0_3_0_0 : S1000x8x77x77.Slices ![0, 3, 0, 0] S1000x1x77x77
  slices_S1000x8x77x77_S1000x1x77x77_0_4_0_0 : S1000x8x77x77.Slices ![0, 4, 0, 0] S1000x1x77x77
  slices_S1000x8x77x77_S1000x1x77x77_0_5_0_0 : S1000x8x77x77.Slices ![0, 5, 0, 0] S1000x1x77x77
  slices_S1000x8x77x77_S1000x1x77x77_0_6_0_0 : S1000x8x77x77.Slices ![0, 6, 0, 0] S1000x1x77x77
  slices_S1000x8x77x77_S1000x1x77x77_0_7_0_0 : S1000x8x77x77.Slices ![0, 7, 0, 0] S1000x1x77x77
  slices_S1000x1x77x77_S1000x1x1x5_0_0_76_0 : S1000x1x77x77.Slices ![0, 0, 76, 0] S1000x1x1x5
  shapeCasts_S1000x1x1x5_S1000x1x5 : S1000x1x1x5.ShapeCasts S1000x1x5
  reducesTo_S1000x1x5_S1000x1_d2 : S1000x1x5.ReducesTo [2] S1000x1
  bcast_S_S1000x1 : S_.BroadcastsInDim S1000x1 (![] : Fin 0 → Fin S1000x1.rank)
  bcast_S1000x1_S1000x1x1_0_1 : S1000x1.BroadcastsInDim S1000x1x1 (![0, 1] : Fin 2 → Fin S1000x1x1.rank)
  bcast_S1000x1x1_S1000x1x5_0_1_2 : S1000x1x1.BroadcastsInDim S1000x1x5 (![0, 1, 2] : Fin 3 → Fin S1000x1x5.rank)
  shapeCasts_S1000x1x5_S1000x5 : S1000x1x5.ShapeCasts S1000x5
  bcast_S1000x5_S1000x5x1_0_1 : S1000x5.BroadcastsInDim S1000x5x1 (![0, 1] : Fin 2 → Fin S1000x5x1.rank)
  bcast_S1000x5x1_S1000x5x512_0_1_2 : S1000x5x1.BroadcastsInDim S1000x5x512 (![0, 1, 2] : Fin 3 → Fin S1000x5x512.rank)
  slices_S1000x77x512_S1000x1x512_0_76_0 : S1000x77x512.Slices ![0, 76, 0] S1000x1x512
  shapeCasts_S1000x1x512_S1000x512 : S1000x1x512.ShapeCasts S1000x512
  bcast_S_S1000x5x512 : S_.BroadcastsInDim S1000x5x512 (![] : Fin 0 → Fin S1000x5x512.rank)
  bcast_S_S1000x72x512 : S_.BroadcastsInDim S1000x72x512 (![] : Fin 0 → Fin S1000x72x512.rank)
  bcast_S_S512 : S_.BroadcastsInDim S512 (![] : Fin 0 → Fin S512.rank)
  bcast_S_S512x512 : S_.BroadcastsInDim S512x512 (![] : Fin 0 → Fin S512x512.rank)
  reducesTo_S256x512_S256_d1 : S256x512.ReducesTo [1] S256
  bcast_S_S256 : S_.BroadcastsInDim S256 (![] : Fin 0 → Fin S256.rank)
  reducesTo_S1000x512_S1000_d1 : S1000x512.ReducesTo [1] S1000
  bcast_S_S1000 : S_.BroadcastsInDim S1000 (![] : Fin 0 → Fin S1000.rank)
  dot_S256x768_S768x512_S256x512_1_0_0_1_n_n_wf : DotDims.WF S256x768 S768x512 S256x512 [1] [0] [0] [1] [] []
  dot_S1000x77x512_S512x512_S1000x77x512_2_0_01_1_n_n_wf : DotDims.WF S1000x77x512 S512x512 S1000x77x512 [2] [0] [0, 1] [1] [] []
  dot_S1000x77x8x64_S1000x77x8x64_S1000x8x77x77_3_3_1_1_02_02_wf : DotDims.WF S1000x77x8x64 S1000x77x8x64 S1000x8x77x77 [3] [3] [1] [1] [0, 2] [0, 2]
  dot_S1000x77x8x64_S1000x8x77x77_S1000x8x64x77_1_3_3_2_02_01_wf : DotDims.WF S1000x77x8x64 S1000x8x77x77 S1000x8x64x77 [1] [3] [3] [2] [0, 2] [0, 1]
  dot_S1000x512_S512x512_S1000x512_1_0_0_1_n_n_wf : DotDims.WF S1000x512 S512x512 S1000x512 [1] [0] [0] [1] [] []

variable [Facts]

def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S1000x77x512_S512x512_S1000x77x512_2_0_01_1_n_n : DotDims S1000x77x512 S512x512 S1000x77x512 where
  lhsContracting := [2]
  rhsContracting := [0]
  lhsNonContracting := [0, 1]
  rhsNonContracting := [1]
  lhsBatch := []
  rhsBatch := []
  wf := dot_S1000x77x512_S512x512_S1000x77x512_2_0_01_1_n_n_wf
def dot_S1000x77x8x64_S1000x77x8x64_S1000x8x77x77_3_3_1_1_02_02 : DotDims S1000x77x8x64 S1000x77x8x64 S1000x8x77x77 where
  lhsContracting := [3]
  rhsContracting := [3]
  lhsNonContracting := [1]
  rhsNonContracting := [1]
  lhsBatch := [0, 2]
  rhsBatch := [0, 2]
  wf := dot_S1000x77x8x64_S1000x77x8x64_S1000x8x77x77_3_3_1_1_02_02_wf
def dot_S1000x77x8x64_S1000x8x77x77_S1000x8x64x77_1_3_3_2_02_01 : DotDims S1000x77x8x64 S1000x8x77x77 S1000x8x64x77 where
  lhsContracting := [1]
  rhsContracting := [3]
  lhsNonContracting := [3]
  rhsNonContracting := [2]
  lhsBatch := [0, 2]
  rhsBatch := [0, 1]
  wf := dot_S1000x77x8x64_S1000x8x77x77_S1000x8x64x77_1_3_3_2_02_01_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def fn_where {F : FTy → Type} [FloatOps F] (arg0 : IVec S_ 1) (arg1 : FVec F S1000x77x1 .f32) (arg2 : FVec F S_ .f32) : FVec F S1000x77x1 .f32 :=
  let v0 : FVec F S_ .f32 := id arg2
  let v1 : FVec F S1000x77x1 .f32 := broadcastInDim S1000x77x1 ![] bcast_S_S1000x77x1 v0
  let v2 : FVec F S1000x77x1 .f32 := (fun p a b => select (broadcastInDim S1000x77x1 ![] bcast_S_S1000x77x1 p) a b) arg0 arg1 v1
  v2

def fn_var {F : FTy → Type} [FloatOps F] (arg0 : FVec F S1000x77x512 .f32) (arg1 : IVec S_ 32) : FVec F S1000x77x1 .f32 :=
  let cst : FVec F S_ .f32 := constant S_ .f32 0x00000000#32
  let v0 : FVec F S1000x77 .f32 := (fun x v => Host.reduceAdd x v reducesTo_S1000x77x512_S1000x77_d2 h_S_) arg0 cst
  let v1 : FVec F S1000x77x1 .f32 := broadcastInDim S1000x77x1 ![0, 1] bcast_S1000x77_S1000x77x1_0_1 v0
  let cst_0 : FVec F S_ .f32 := constant S_ .f32 0x44000000#32
  let v2 : FVec F S1000x77x1 .f32 := broadcastInDim S1000x77x1 ![] bcast_S_S1000x77x1 cst_0
  let v3 : FVec F S1000x77x1 .f32 := Host.divf v1 v2
  let v4 : FVec F S1000x77x512 .f32 := broadcastInDim S1000x77x512 ![0, 1, 2] bcast_S1000x77x1_S1000x77x512_0_1_2 v3
  let v5 : FVec F S1000x77x512 .f32 := subf arg0 v4
  let v6 : FVec F S1000x77x512 .f32 := mulf v5 v5
  let v7 : FVec F S_ .f32 := sitofp .f32 arg1
  let cst_1 : FVec F S_ .f32 := constant S_ .f32 0x44000000#32
  let v8 : FVec F S_ .f32 := subf cst_1 v7
  let cst_2 : FVec F S_ .f32 := constant S_ .f32 0x00000000#32
  let v9 : FVec F S1000x77 .f32 := (fun x v => Host.reduceAdd x v reducesTo_S1000x77x512_S1000x77_d2 h_S_) v6 cst_2
  let v10 : FVec F S1000x77x1 .f32 := broadcastInDim S1000x77x1 ![0, 1] bcast_S1000x77_S1000x77x1_0_1 v9
  let v11 : FVec F S1000x77x1 .f32 := broadcastInDim S1000x77x1 ![] bcast_S_S1000x77x1 v8
  let v12 : FVec F S1000x77x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1000x77x1 .f32 := fn_where (F := F) v13 v12 cst_4
  v14

def fn_part7 {F : FTy → Type} [FloatOps F] (main_arg7 : FVec F S512x512 .f32) (main_arg8 : FVec F S512x512 .f32) (main_v0 : FVec F S256x512 .f32) (main_v129 : FVec F S1000x512 .f32) (main_v132 : IVec S1000x5x512 1) (main_v135 : IVec S1000x72x512 1) (main_v138 : IVec S512 1) (main_v141 : IVec S512 1) (main_v142 : FVec F S512x512 .f32) : IVec S1000x5x512 1 × IVec S1000x72x512 1 × IVec S512 1 × IVec S512 1 × IVec S512x512 1 × IVec S512x512 1 × IVec S512x512 1 × IVec S256 1 × IVec S1000 1 :=
  let main_cst_23 : FVec F S_ .f32 := constant S_ .f32 0x7F800000#32
  let main_v143 : FVec F S512x512 .f32 := broadcastInDim S512x512 ![] bcast_S_S512x512 main_cst_23
  let main_v144 : IVec S512x512 1 := cmpf .olt main_v142 main_v143
  let main_v145 : FVec F S512x512 .f32 := Host.absf main_arg7
  let main_cst_24 : FVec F S_ .f32 := constant S_ .f32 0x7F800000#32
  let main_v146 : FVec F S512x512 .f32 := broadcastInDim S512x512 ![] bcast_S_S512x512 main_cst_24
  let main_v147 : IVec S512x512 1 := cmpf .olt main_v145 main_v146
  let main_v148 : FVec F S512x512 .f32 := Host.absf main_arg8
  let main_cst_25 : FVec F S_ .f32 := constant S_ .f32 0x7F800000#32
  let main_v149 : FVec F S512x512 .f32 := broadcastInDim S512x512 ![] bcast_S_S512x512 main_cst_25
  let main_v150 : IVec S512x512 1 := cmpf .olt main_v148 main_v149
  let main_v151 : FVec F S256x512 .f32 := mulf main_v0 main_v0
  let main_cst_26 : FVec F S_ .f32 := constant S_ .f32 0x00000000#32
  let main_v152 : FVec F S256 .f32 := (fun x v => Host.reduceAdd x v reducesTo_S256x512_S256_d1 h_S_) main_v151 main_cst_26
  let main_cst_27 : FVec F S_ .f32 := constant S_ .f32 0x00000000#32
  let main_v153 : FVec F S256 .f32 := broadcastInDim S256 ![] bcast_S_S256 main_cst_27
  let main_v154 : IVec S256 1 := cmpf .ogt main_v152 main_v153
  let main_v155 : FVec F S1000x512 .f32 := mulf main_v129 main_v129
  let main_cst_28 : FVec F S_ .f32 := constant S_ .f32 0x00000000#32
  let main_v156 : FVec F S1000 .f32 := (fun x v => Host.reduceAdd x v reducesTo_S1000x512_S1000_d1 h_S_) main_v155 main_cst_28
  let main_cst_29 : FVec F S_ .f32 := constant S_ .f32 0x00000000#32
  let main_v157 : FVec F S1000 .f32 := broadcastInDim S1000 ![] bcast_S_S1000 main_cst_29
  let main_v158 : IVec S1000 1 := cmpf .ogt main_v156 main_v157
  (main_v132, main_v135, main_v138, main_v141, main_v144, main_v147, main_v150, main_v154, main_v158)

def fn_part6 {F : FTy → Type} [FloatOps F] (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_v0 : FVec F S256x512 .f32) (main_v82 : FVec F S1000x77x512 .f32) (main_v122 : FVec F S1000x8x64x77 .f32) : IVec S1000x5x512 1 × IVec S1000x72x512 1 × IVec S512 1 × IVec S512 1 × IVec S512x512 1 × IVec S512x512 1 × IVec S512x512 1 × IVec S256 1 × IVec S1000 1 :=
  let main_v123 : FVec F S1000x77x8x64 .f32 := (transpose S1000x77x8x64 [0, 3, 1, 2] · transposes_S1000x8x64x77_S1000x77x8x64_0_3_1_2) main_v122
  let main_v124 : FVec F S1000x77x512 .f32 := shapeCast S1000x77x512 main_v123 shapeCasts_S1000x77x8x64_S1000x77x512
  let main_v125 : FVec F S1000x77x512 .f32 := (fun l r => Host.dotGeneral dot_S1000x77x512_S512x512_S1000x77x512_2_0_01_1_n_n none l r) main_v124 main_arg9
  let main_v126 : FVec F S1000x77x512 .f32 := addf main_v82 main_v125
  let main_v127 : FVec F S1000x1x512 .f32 := (extractStridedSlice S1000x1x512 ![0, 76, 0] · slices_S1000x77x512_S1000x1x512_0_76_0) main_v126
  let main_v128 : FVec F S1000x512 .f32 := shapeCast S1000x512 main_v127 shapeCasts_S1000x1x512_S1000x512
  let main_v129 : FVec F S1000x512 .f32 := (fun l r => Host.dotGeneral dot_S1000x512_S512x512_S1000x512_1_0_0_1_n_n none l r) main_v128 main_arg10
  let main_v130 : FVec F S1000x5x512 .f32 := Host.absf main_arg2
  let main_cst_19 : FVec F S_ .f32 := constant S_ .f32 0x7F800000#32
  let main_v131 : FVec F S1000x5x512 .f32 := broadcastInDim S1000x5x512 ![] bcast_S_S1000x5x512 main_cst_19
  let main_v132 : IVec S1000x5x512 1 := cmpf .olt main_v130 main_v131
  let main_v133 : FVec F S1000x72x512 .f32 := Host.absf main_arg3
  let main_cst_20 : FVec F S_ .f32 := constant S_ .f32 0x7F800000#32
  let main_v134 : FVec F S1000x72x512 .f32 := broadcastInDim S1000x72x512 ![] bcast_S_S1000x72x512 main_cst_20
  let main_v135 : IVec S1000x72x512 1 := cmpf .olt main_v133 main_v134
  let main_v136 : FVec F S512 .f32 := Host.absf main_arg4
  let main_cst_21 : FVec F S_ .f32 := constant S_ .f32 0x7F800000#32
  let main_v137 : FVec F S512 .f32 := broadcastInDim S512 ![] bcast_S_S512 main_cst_21
  let main_v138 : IVec S512 1 := cmpf .olt main_v136 main_v137
  let main_v139 : FVec F S512 .f32 := Host.absf main_arg5
  let main_cst_22 : FVec F S_ .f32 := constant S_ .f32 0x7F800000#32
  let main_v140 : FVec F S512 .f32 := broadcastInDim S512 ![] bcast_S_S512 main_cst_22
  let main_v141 : IVec S512 1 := cmpf .olt main_v139 main_v140
  let main_v142 : FVec F S512x512 .f32 := Host.absf main_arg6
  fn_part7 (F := F) main_arg7 main_arg8 main_v0 main_v129 main_v132 main_v135 main_v138 main_v141 main_v142

def fn_part5 {F : FTy → Type} [FloatOps F] (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_v0 : FVec F S256x512 .f32) (main_v82 : FVec F S1000x77x512 .f32) (main_v100 : FVec F S1000x77x512 .f32) (main_v102 : FVec F S1000x77x8x64 .f32) : IVec S1000x5x512 1 × IVec S1000x72x512 1 × IVec S512 1 × IVec S512 1 × IVec S512x512 1 × IVec S512x512 1 × IVec S512x512 1 × IVec S256 1 × IVec S1000 1 :=
  let main_v103 : FVec F S1000x77x512 .f32 := (fun l r => Host.dotGeneral dot_S1000x77x512_S512x512_S1000x77x512_2_0_01_1_n_n none l r) main_v100 main_arg7
  let main_v104 : FVec F S1000x77x8x64 .f32 := shapeCast S1000x77x8x64 main_v103 shapeCasts_S1000x77x512_S1000x77x8x64
  let main_v105 : FVec F S1000x77x512 .f32 := (fun l r => Host.dotGeneral dot_S1000x77x512_S512x512_S1000x77x512_2_0_01_1_n_n none l r) main_v100 main_arg8
  let main_v106 : FVec F S1000x77x8x64 .f32 := shapeCast S1000x77x8x64 main_v105 shapeCasts_S1000x77x512_S1000x77x8x64
  let main_v107 : FVec F S1000x8x77x77 .f32 := (fun l r => Host.dotGeneral dot_S1000x77x8x64_S1000x77x8x64_S1000x8x77x77_3_3_1_1_02_02 none l r) main_v102 main_v104
  let main_cst_15 : FVec F S_ .f32 := constant S_ .f32 0x42800000#32
  let main_v108 : FVec F S_ .f32 := Host.sqrt main_cst_15
  let main_v109 : FVec F S1000x8x77x77 .f32 := broadcastInDim S1000x8x77x77 ![] bcast_S_S1000x8x77x77 main_v108
  let main_v110 : FVec F S1000x8x77x77 .f32 := Host.divf main_v107 main_v109
  let main_cst_16 : FVec F S_ .f32 := constant S_ .f32 0xFF800000#32
  let main_v111 : FVec F S1000x8x77 .f32 := (fun x v => Host.reduce FloatOps.maximumf x v reducesTo_S1000x8x77x77_S1000x8x77_d3 h_S_) main_v110 main_cst_16
  let main_cst_17 : FVec F S_ .f32 := constant S_ .f32 0xFF800000#32
  let main_v112 : FVec F S1000x8x77 .f32 := broadcastInDim S1000x8x77 ![] bcast_S_S1000x8x77 main_cst_17
  let main_v113 : FVec F S1000x8x77 .f32 := maximumf main_v112 main_v111
  let main_v114 : FVec F S1000x8x77x1 .f32 := broadcastInDim S1000x8x77x1 ![0, 1, 2] bcast_S1000x8x77_S1000x8x77x1_0_1_2 main_v113
  let main_v115 : FVec F S1000x8x77x77 .f32 := broadcastInDim S1000x8x77x77 ![0, 1, 2, 3] bcast_S1000x8x77x1_S1000x8x77x77_0_1_2_3 main_v114
  let main_v116 : FVec F S1000x8x77x77 .f32 := subf main_v110 main_v115
  let main_v117 : FVec F S1000x8x77x77 .f32 := Host.exp main_v116
  let main_cst_18 : FVec F S_ .f32 := constant S_ .f32 0x00000000#32
  let main_v118 : FVec F S1000x8x77 .f32 := (fun x v => Host.reduceAdd x v reducesTo_S1000x8x77x77_S1000x8x77_d3 h_S_) main_v117 main_cst_18
  let main_v119 : FVec F S1000x8x77x1 .f32 := broadcastInDim S1000x8x77x1 ![0, 1, 2] bcast_S1000x8x77_S1000x8x77x1_0_1_2 main_v118
  let main_v120 : FVec F S1000x8x77x77 .f32 := broadcastInDim S1000x8x77x77 ![0, 1, 2, 3] bcast_S1000x8x77x1_S1000x8x77x77_0_1_2_3 main_v119
  let main_v121 : FVec F S1000x8x77x77 .f32 := Host.divf main_v117 main_v120
  let main_v122 : FVec F S1000x8x64x77 .f32 := (fun l r => Host.dotGeneral dot_S1000x77x8x64_S1000x8x77x77_S1000x8x64x77_1_3_3_2_02_01 none l r) main_v106 main_v121
  fn_part6 (F := F) main_arg2 main_arg3 main_arg4 main_arg5 main_arg6 main_arg7 main_arg8 main_arg9 main_arg10 main_v0 main_v82 main_v122

def fn_part4 {F : FTy → Type} [FloatOps F] (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_v0 : FVec F S256x512 .f32) (main_v82 : FVec F S1000x77x512 .f32) : IVec S1000x5x512 1 × IVec S1000x72x512 1 × IVec S512 1 × IVec S512 1 × IVec S512x512 1 × IVec S512x512 1 × IVec S512x512 1 × IVec S256 1 × IVec S1000 1 :=
  let main_cst_11 : FVec F S_ .f32 := constant S_ .f32 0x00000000#32
  let main_v83 : FVec F S1000x77 .f32 := (fun x v => Host.reduceAdd x v reducesTo_S1000x77x512_S1000x77_d2 h_S_) main_v82 main_cst_11
  let main_v84 : FVec F S1000x77x1 .f32 := broadcastInDim S1000x77x1 ![0, 1] bcast_S1000x77_S1000x77x1_0_1 main_v83
  let main_cst_12 : FVec F S_ .f32 := constant S_ .f32 0x44000000#32
  let main_v85 : FVec F S1000x77x1 .f32 := broadcastInDim S1000x77x1 ![] bcast_S_S1000x77x1 main_cst_12
  let main_v86 : FVec F S1000x77x1 .f32 := Host.divf main_v84 main_v85
  let main_c_13 : IVec S_ 32 := constantI S_ 32 0#32
  let main_v87 : FVec F S1000x77x1 .f32 := fn_var (F := F) main_v82 main_c_13
  let main_v88 : FVec F S1000x77x512 .f32 := broadcastInDim S1000x77x512 ![0, 1, 2] bcast_S1000x77x1_S1000x77x512_0_1_2 main_v86
  let main_v89 : FVec F S1000x77x512 .f32 := subf main_v82 main_v88
  let main_cst_14 : FVec F S_ .f32 := constant S_ .f32 0x3727C5AC#32
  let main_v90 : FVec F S1000x77x1 .f32 := broadcastInDim S1000x77x1 ![] bcast_S_S1000x77x1 main_cst_14
  let main_v91 : FVec F S1000x77x1 .f32 := addf main_v87 main_v90
  let main_v92 : FVec F S1000x77x1 .f32 := Host.rsqrt main_v91
  let main_v93 : FVec F S1000x77x512 .f32 := broadcastInDim S1000x77x512 ![0, 1, 2] bcast_S1000x77x1_S1000x77x512_0_1_2 main_v92
  let main_v94 : FVec F S1000x77x512 .f32 := mulf main_v89 main_v93
  let main_v95 : FVec F S1x1x512 .f32 := broadcastInDim S1x1x512 ![2] bcast_S512_S1x1x512_2 main_arg4
  let main_v96 : FVec F S1000x77x512 .f32 := broadcastInDim S1000x77x512 ![0, 1, 2] bcast_S1x1x512_S1000x77x512_0_1_2 main_v95
  let main_v97 : FVec F S1000x77x512 .f32 := mulf main_v94 main_v96
  let main_v98 : FVec F S1x1x512 .f32 := broadcastInDim S1x1x512 ![2] bcast_S512_S1x1x512_2 main_arg5
  let main_v99 : FVec F S1000x77x512 .f32 := broadcastInDim S1000x77x512 ![0, 1, 2] bcast_S1x1x512_S1000x77x512_0_1_2 main_v98
  let main_v100 : FVec F S1000x77x512 .f32 := addf main_v97 main_v99
  let main_v101 : FVec F S1000x77x512 .f32 := (fun l r => Host.dotGeneral dot_S1000x77x512_S512x512_S1000x77x512_2_0_01_1_n_n none l r) main_v100 main_arg6
  let main_v102 : FVec F S1000x77x8x64 .f32 := shapeCast S1000x77x8x64 main_v101 shapeCasts_S1000x77x512_S1000x77x8x64
  fn_part5 (F := F) main_arg2 main_arg3 main_arg4 main_arg5 main_arg6 main_arg7 main_arg8 main_arg9 main_arg10 main_v0 main_v82 main_v100 main_v102

def fn_part3 {F : FTy → Type} [FloatOps F] (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_v0 : FVec F S256x512 .f32) (main_v62 : FVec F S1000x1x77x77 .f32) : IVec S1000x5x512 1 × IVec S1000x72x512 1 × IVec S512 1 × IVec S512 1 × IVec S512x512 1 × IVec S512x512 1 × IVec S512x512 1 × IVec S256 1 × IVec S1000 1 :=
  let main_cst_7 : FVec F S_ .f32 := constant S_ .f32 0x41000000#32
  let main_v63 : FVec F S1000x1x77x77 .f32 := broadcastInDim S1000x1x77x77 ![] bcast_S_S1000x1x77x77 main_cst_7
  let main_v64 : FVec F S1000x1x77x77 .f32 := Host.divf main_v62 main_v63
  let main_v65 : FVec F S1000x1x1x5 .f32 := (extractStridedSlice S1000x1x1x5 ![0, 0, 76, 0] · slices_S1000x1x77x77_S1000x1x1x5_0_0_76_0) main_v64
  let main_v66 : FVec F S1000x1x5 .f32 := shapeCast S1000x1x5 main_v65 shapeCasts_S1000x1x1x5_S1000x1x5
  let main_cst_8 : FVec F S_ .f32 := constant S_ .f32 0xFF800000#32
  let main_v67 : FVec F S1000x1 .f32 := (fun x v => Host.reduce FloatOps.maximumf x v reducesTo_S1000x1x5_S1000x1_d2 h_S_) main_v66 main_cst_8
  let main_cst_9 : FVec F S_ .f32 := constant S_ .f32 0xFF800000#32
  let main_v68 : FVec F S1000x1 .f32 := broadcastInDim S1000x1 ![] bcast_S_S1000x1 main_cst_9
  let main_v69 : FVec F S1000x1 .f32 := maximumf main_v68 main_v67
  let main_v70 : FVec F S1000x1x1 .f32 := broadcastInDim S1000x1x1 ![0, 1] bcast_S1000x1_S1000x1x1_0_1 main_v69
  let main_v71 : FVec F S1000x1x5 .f32 := broadcastInDim S1000x1x5 ![0, 1, 2] bcast_S1000x1x1_S1000x1x5_0_1_2 main_v70
  let main_v72 : FVec F S1000x1x5 .f32 := subf main_v66 main_v71
  let main_v73 : FVec F S1000x1x5 .f32 := Host.exp main_v72
  let main_cst_10 : FVec F S_ .f32 := constant S_ .f32 0x00000000#32
  let main_v74 : FVec F S1000x1 .f32 := (fun x v => Host.reduceAdd x v reducesTo_S1000x1x5_S1000x1_d2 h_S_) main_v73 main_cst_10
  let main_v75 : FVec F S1000x1x1 .f32 := broadcastInDim S1000x1x1 ![0, 1] bcast_S1000x1_S1000x1x1_0_1 main_v74
  let main_v76 : FVec F S1000x1x5 .f32 := broadcastInDim S1000x1x5 ![0, 1, 2] bcast_S1000x1x1_S1000x1x5_0_1_2 main_v75
  let main_v77 : FVec F S1000x1x5 .f32 := Host.divf main_v73 main_v76
  let main_v78 : FVec F S1000x5 .f32 := shapeCast S1000x5 main_v77 shapeCasts_S1000x1x5_S1000x5
  let main_v79 : FVec F S1000x5x1 .f32 := broadcastInDim S1000x5x1 ![0, 1] bcast_S1000x5_S1000x5x1_0_1 main_v78
  let main_v80 : FVec F S1000x5x512 .f32 := broadcastInDim S1000x5x512 ![0, 1, 2] bcast_S1000x5x1_S1000x5x512_0_1_2 main_v79
  let main_v81 : FVec F S1000x5x512 .f32 := mulf main_arg2 main_v80
  let main_v82 : FVec F S1000x77x512 .f32 := (fun a b => concatenate S1000x77x512 1 [⟨S1000x5x512, a⟩, ⟨S1000x72x512, b⟩] concatenates_S1000x5x512_S1000x72x512_S1000x77x512_d1) main_v81 main_arg3
  fn_part4 (F := F) main_arg2 main_arg3 main_arg4 main_arg5 main_arg6 main_arg7 main_arg8 main_arg9 main_arg10 main_v0 main_v82

def fn_part2 {F : FTy → Type} [FloatOps F] (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_v0 : FVec F S256x512 .f32) (main_v1 : FVec F S1000x77x512 .f32) (main_v25 : FVec F S1000x77x8x64 .f32) (main_v36 : FVec F S1000x8x77x77 .f32) (main_v39 : FVec F S1000x8x77x77 .f32) : IVec S1000x5x512 1 × IVec S1000x72x512 1 × IVec S512 1 × IVec S512 1 × IVec S512x512 1 × IVec S512x512 1 × IVec S512x512 1 × IVec S256 1 × IVec S1000 1 :=
  let main_v40 : FVec F S1000x8x77x77 .f32 := Host.divf main_v36 main_v39
  let main_v41 : FVec F S1000x8x64x77 .f32 := (fun l r => Host.dotGeneral dot_S1000x77x8x64_S1000x8x77x77_S1000x8x64x77_1_3_3_2_02_01 none l r) main_v25 main_v40
  let main_v42 : FVec F S1000x77x8x64 .f32 := (transpose S1000x77x8x64 [0, 3, 1, 2] · transposes_S1000x8x64x77_S1000x77x8x64_0_3_1_2) main_v41
  let main_v43 : FVec F S1000x77x512 .f32 := shapeCast S1000x77x512 main_v42 shapeCasts_S1000x77x8x64_S1000x77x512
  let main_v44 : FVec F S1000x77x512 .f32 := (fun l r => Host.dotGeneral dot_S1000x77x512_S512x512_S1000x77x512_2_0_01_1_n_n none l r) main_v43 main_arg9
  let main_v45 : FVec F S1000x77x512 .f32 := addf main_v1 main_v44
  let main_v46 : FVec F S1000x1x77x77 .f32 := (extractStridedSlice S1000x1x77x77 ![0, 0, 0, 0] · slices_S1000x8x77x77_S1000x1x77x77_0_0_0_0) main_v40
  let main_cst_6 : FVec F S_ .f32 := constant S_ .f32 0x00000000#32
  let main_v47 : FVec F S1000x1x77x77 .f32 := broadcastInDim S1000x1x77x77 ![] bcast_S_S1000x1x77x77 main_cst_6
  let main_v48 : FVec F S1000x1x77x77 .f32 := addf main_v47 main_v46
  let main_v49 : FVec F S1000x1x77x77 .f32 := (extractStridedSlice S1000x1x77x77 ![0, 1, 0, 0] · slices_S1000x8x77x77_S1000x1x77x77_0_1_0_0) main_v40
  let main_v50 : FVec F S1000x1x77x77 .f32 := addf main_v48 main_v49
  let main_v51 : FVec F S1000x1x77x77 .f32 := (extractStridedSlice S1000x1x77x77 ![0, 2, 0, 0] · slices_S1000x8x77x77_S1000x1x77x77_0_2_0_0) main_v40
  let main_v52 : FVec F S1000x1x77x77 .f32 := addf main_v50 main_v51
  let main_v53 : FVec F S1000x1x77x77 .f32 := (extractStridedSlice S1000x1x77x77 ![0, 3, 0, 0] · slices_S1000x8x77x77_S1000x1x77x77_0_3_0_0) main_v40
  let main_v54 : FVec F S1000x1x77x77 .f32 := addf main_v52 main_v53
  let main_v55 : FVec F S1000x1x77x77 .f32 := (extractStridedSlice S1000x1x77x77 ![0, 4, 0, 0] · slices_S1000x8x77x77_S1000x1x77x77_0_4_0_0) main_v40
  let main_v56 : FVec F S1000x1x77x77 .f32 := addf main_v54 main_v55
  let main_v57 : FVec F S1000x1x77x77 .f32 := (extractStridedSlice S1000x1x77x77 ![0, 5, 0, 0] · slices_S1000x8x77x77_S1000x1x77x77_0_5_0_0) main_v40
  let main_v58 : FVec F S1000x1x77x77 .f32 := addf main_v56 main_v57
  let main_v59 : FVec F S1000x1x77x77 .f32 := (extractStridedSlice S1000x1x77x77 ![0, 6, 0, 0] · slices_S1000x8x77x77_S1000x1x77x77_0_6_0_0) main_v40
  let main_v60 : FVec F S1000x1x77x77 .f32 := addf main_v58 main_v59
  let main_v61 : FVec F S1000x1x77x77 .f32 := (extractStridedSlice S1000x1x77x77 ![0, 7, 0, 0] · slices_S1000x8x77x77_S1000x1x77x77_0_7_0_0) main_v40
  let main_v62 : FVec F S1000x1x77x77 .f32 := addf main_v60 main_v61
  fn_part3 (F := F) main_arg2 main_arg3 main_arg4 main_arg5 main_arg6 main_arg7 main_arg8 main_arg9 main_arg10 main_v0 main_v62

def fn_part1 {F : FTy → Type} [FloatOps F] (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_v0 : FVec F S256x512 .f32) (main_v1 : FVec F S1000x77x512 .f32) (main_v19 : FVec F S1000x77x512 .f32) : IVec S1000x5x512 1 × IVec S1000x72x512 1 × IVec S512 1 × IVec S512 1 × IVec S512x512 1 × IVec S512x512 1 × IVec S512x512 1 × IVec S256 1 × IVec S1000 1 :=
  let main_v20 : FVec F S1000x77x512 .f32 := (fun l r => Host.dotGeneral dot_S1000x77x512_S512x512_S1000x77x512_2_0_01_1_n_n none l r) main_v19 main_arg6
  let main_v21 : FVec F S1000x77x8x64 .f32 := shapeCast S1000x77x8x64 main_v20 shapeCasts_S1000x77x512_S1000x77x8x64
  let main_v22 : FVec F S1000x77x512 .f32 := (fun l r => Host.dotGeneral dot_S1000x77x512_S512x512_S1000x77x512_2_0_01_1_n_n none l r) main_v19 main_arg7
  let main_v23 : FVec F S1000x77x8x64 .f32 := shapeCast S1000x77x8x64 main_v22 shapeCasts_S1000x77x512_S1000x77x8x64
  let main_v24 : FVec F S1000x77x512 .f32 := (fun l r => Host.dotGeneral dot_S1000x77x512_S512x512_S1000x77x512_2_0_01_1_n_n none l r) main_v19 main_arg8
  let main_v25 : FVec F S1000x77x8x64 .f32 := shapeCast S1000x77x8x64 main_v24 shapeCasts_S1000x77x512_S1000x77x8x64
  let main_v26 : FVec F S1000x8x77x77 .f32 := (fun l r => Host.dotGeneral dot_S1000x77x8x64_S1000x77x8x64_S1000x8x77x77_3_3_1_1_02_02 none l r) main_v21 main_v23
  let main_cst_2 : FVec F S_ .f32 := constant S_ .f32 0x42800000#32
  let main_v27 : FVec F S_ .f32 := Host.sqrt main_cst_2
  let main_v28 : FVec F S1000x8x77x77 .f32 := broadcastInDim S1000x8x77x77 ![] bcast_S_S1000x8x77x77 main_v27
  let main_v29 : FVec F S1000x8x77x77 .f32 := Host.divf main_v26 main_v28
  let main_cst_3 : FVec F S_ .f32 := constant S_ .f32 0xFF800000#32
  let main_v30 : FVec F S1000x8x77 .f32 := (fun x v => Host.reduce FloatOps.maximumf x v reducesTo_S1000x8x77x77_S1000x8x77_d3 h_S_) main_v29 main_cst_3
  let main_cst_4 : FVec F S_ .f32 := constant S_ .f32 0xFF800000#32
  let main_v31 : FVec F S1000x8x77 .f32 := broadcastInDim S1000x8x77 ![] bcast_S_S1000x8x77 main_cst_4
  let main_v32 : FVec F S1000x8x77 .f32 := maximumf main_v31 main_v30
  let main_v33 : FVec F S1000x8x77x1 .f32 := broadcastInDim S1000x8x77x1 ![0, 1, 2] bcast_S1000x8x77_S1000x8x77x1_0_1_2 main_v32
  let main_v34 : FVec F S1000x8x77x77 .f32 := broadcastInDim S1000x8x77x77 ![0, 1, 2, 3] bcast_S1000x8x77x1_S1000x8x77x77_0_1_2_3 main_v33
  let main_v35 : FVec F S1000x8x77x77 .f32 := subf main_v29 main_v34
  let main_v36 : FVec F S1000x8x77x77 .f32 := Host.exp main_v35
  let main_cst_5 : FVec F S_ .f32 := constant S_ .f32 0x00000000#32
  let main_v37 : FVec F S1000x8x77 .f32 := (fun x v => Host.reduceAdd x v reducesTo_S1000x8x77x77_S1000x8x77_d3 h_S_) main_v36 main_cst_5
  let main_v38 : FVec F S1000x8x77x1 .f32 := broadcastInDim S1000x8x77x1 ![0, 1, 2] bcast_S1000x8x77_S1000x8x77x1_0_1_2 main_v37
  let main_v39 : FVec F S1000x8x77x77 .f32 := broadcastInDim S1000x8x77x77 ![0, 1, 2, 3] bcast_S1000x8x77x1_S1000x8x77x77_0_1_2_3 main_v38
  fn_part2 (F := F) main_arg2 main_arg3 main_arg4 main_arg5 main_arg6 main_arg7 main_arg8 main_arg9 main_arg10 main_v0 main_v1 main_v25 main_v36 main_v39

def fn {F : FTy → Type} [FloatOps F] (main_arg0 : FVec F S256x768 .f32) (main_arg1 : FVec F S768x512 .f32) (main_arg2 : FVec F S1000x5x512 .f32) (main_arg3 : FVec F S1000x72x512 .f32) (main_arg4 : FVec F S512 .f32) (main_arg5 : FVec F S512 .f32) (main_arg6 : FVec F S512x512 .f32) (main_arg7 : FVec F S512x512 .f32) (main_arg8 : FVec F S512x512 .f32) (main_arg9 : FVec F S512x512 .f32) (main_arg10 : FVec F S512x512 .f32) (main_arg11 : FVec F S1 .f32) : IVec S1000x5x512 1 × IVec S1000x72x512 1 × IVec S512 1 × IVec S512 1 × IVec S512x512 1 × IVec S512x512 1 × IVec S512x512 1 × IVec S256 1 × IVec S1000 1 :=
  let main_v0 : FVec F S256x512 .f32 := (fun l r => Host.dotGeneral dot_S256x768_S768x512_S256x512_1_0_0_1_n_n none l r) main_arg0 main_arg1
  let main_v1 : FVec F S1000x77x512 .f32 := (fun a b => concatenate S1000x77x512 1 [⟨S1000x5x512, a⟩, ⟨S1000x72x512, b⟩] concatenates_S1000x5x512_S1000x72x512_S1000x77x512_d1) main_arg2 main_arg3
  let main_cst : FVec F S_ .f32 := constant S_ .f32 0x00000000#32
  let main_v2 : FVec F S1000x77 .f32 := (fun x v => Host.reduceAdd x v reducesTo_S1000x77x512_S1000x77_d2 h_S_) main_v1 main_cst
  let main_v3 : FVec F S1000x77x1 .f32 := broadcastInDim S1000x77x1 ![0, 1] bcast_S1000x77_S1000x77x1_0_1 main_v2
  let main_cst_0 : FVec F S_ .f32 := constant S_ .f32 0x44000000#32
  let main_v4 : FVec F S1000x77x1 .f32 := broadcastInDim S1000x77x1 ![] bcast_S_S1000x77x1 main_cst_0
  let main_v5 : FVec F S1000x77x1 .f32 := Host.divf main_v3 main_v4
  let main_c : IVec S_ 32 := constantI S_ 32 0#32
  let main_v6 : FVec F S1000x77x1 .f32 := fn_var (F := F) main_v1 main_c
  let main_v7 : FVec F S1000x77x512 .f32 := broadcastInDim S1000x77x512 ![0, 1, 2] bcast_S1000x77x1_S1000x77x512_0_1_2 main_v5
  let main_v8 : FVec F S1000x77x512 .f32 := subf main_v1 main_v7
  let main_cst_1 : FVec F S_ .f32 := constant S_ .f32 0x3727C5AC#32
  let main_v9 : FVec F S1000x77x1 .f32 := broadcastInDim S1000x77x1 ![] bcast_S_S1000x77x1 main_cst_1
  let main_v10 : FVec F S1000x77x1 .f32 := addf main_v6 main_v9
  let main_v11 : FVec F S1000x77x1 .f32 := Host.rsqrt main_v10
  let main_v12 : FVec F S1000x77x512 .f32 := broadcastInDim S1000x77x512 ![0, 1, 2] bcast_S1000x77x1_S1000x77x512_0_1_2 main_v11
  let main_v13 : FVec F S1000x77x512 .f32 := mulf main_v8 main_v12
  let main_v14 : FVec F S1x1x512 .f32 := broadcastInDim S1x1x512 ![2] bcast_S512_S1x1x512_2 main_arg4
  let main_v15 : FVec F S1000x77x512 .f32 := broadcastInDim S1000x77x512 ![0, 1, 2] bcast_S1x1x512_S1000x77x512_0_1_2 main_v14
  let main_v16 : FVec F S1000x77x512 .f32 := mulf main_v13 main_v15
  let main_v17 : FVec F S1x1x512 .f32 := broadcastInDim S1x1x512 ![2] bcast_S512_S1x1x512_2 main_arg5
  let main_v18 : FVec F S1000x77x512 .f32 := broadcastInDim S1000x77x512 ![0, 1, 2] bcast_S1x1x512_S1000x77x512_0_1_2 main_v17
  let main_v19 : FVec F S1000x77x512 .f32 := addf main_v16 main_v18
  fn_part1 (F := F) main_arg2 main_arg3 main_arg4 main_arg5 main_arg6 main_arg7 main_arg8 main_arg9 main_arg10 main_v0 main_v1 main_v19
-- ==== Kernel.lean ====
abbrev S256x768 : Shape := ⟨2, ![256, 768]⟩
abbrev S768x512 : Shape := ⟨2, ![768, 512]⟩
abbrev S1000x5x512 : Shape := ⟨3, ![1000, 5, 512]⟩
abbrev S1000x72x512 : Shape := ⟨3, ![1000, 72, 512]⟩
abbrev S512 : Shape := ⟨1, ![512]⟩
abbrev S512x512 : Shape := ⟨2, ![512, 512]⟩
abbrev S1 : Shape := ⟨1, ![1]⟩
abbrev S1x512 : Shape := ⟨2, ![1, 512]⟩
abbrev S1x1 : Shape := ⟨2, ![1, 1]⟩
abbrev S512x1024 : Shape := ⟨2, ![512, 1024]⟩
abbrev S1000x512 : Shape := ⟨2, ![1000, 512]⟩
abbrev S8x5x512 : Shape := ⟨3, ![8, 5, 512]⟩
abbrev S8x72x512 : Shape := ⟨3, ![8, 72, 512]⟩
abbrev S8x512 : Shape := ⟨2, ![8, 512]⟩
abbrev S1x1x512 : Shape := ⟨3, ![1, 1, 512]⟩
abbrev S8x5 : Shape := ⟨2, ![8, 5]⟩
abbrev S8x5x1 : Shape := ⟨3, ![8, 5, 1]⟩
abbrev S8x72 : Shape := ⟨2, ![8, 72]⟩
abbrev S8x72x1 : Shape := ⟨3, ![8, 72, 1]⟩
abbrev S40x512 : Shape := ⟨2, ![40, 512]⟩
abbrev S576x512 : Shape := ⟨2, ![576, 512]⟩
abbrev S616x512 : Shape := ⟨2, ![616, 512]⟩
abbrev S616x1024 : Shape := ⟨2, ![616, 1024]⟩
abbrev S8x1x512 : Shape := ⟨3, ![8, 1, 512]⟩
abbrev S1x1024 : Shape := ⟨2, ![1, 1024]⟩
abbrev S1x8x512 : Shape := ⟨3, ![1, 8, 512]⟩
abbrev S8x8x512 : Shape := ⟨3, ![8, 8, 512]⟩
abbrev S8x8x5 : Shape := ⟨3, ![8, 8, 5]⟩
abbrev S8x8x72 : Shape := ⟨3, ![8, 8, 72]⟩
abbrev S8x8 : Shape := ⟨2, ![8, 8]⟩
abbrev S8x8x1 : Shape := ⟨3, ![8, 8, 1]⟩
abbrev S8x1x5 : Shape := ⟨3, ![8, 1, 5]⟩
abbrev S8x1 : Shape := ⟨2, ![8, 1]⟩
abbrev S8x1x1 : Shape := ⟨3, ![8, 1, 1]⟩
abbrev S8 : Shape := ⟨1, ![8]⟩
abbrev S256x1000 : Shape := ⟨2, ![256, 1000]⟩
abbrev S128x768 : Shape := ⟨2, ![128, 768]⟩
abbrev S128x1000 : Shape := ⟨2, ![128, 1000]⟩
abbrev S128x512 : Shape := ⟨2, ![128, 512]⟩
abbrev S128 : Shape := ⟨1, ![128]⟩
abbrev S128x1 : Shape := ⟨2, ![128, 1]⟩

abbrev nBuf : Space → Nat
  | .hbm => 18
  | .vmem => 19
  | .smem => 0
  | _ => 0

abbrev bufTy : (tb : Table) → Fin (tcTables nBuf tb) → BufTy
  | .hbm, ⟨0, _⟩ => ⟨S256x768, .f32⟩
  | .hbm, ⟨1, _⟩ => ⟨S768x512, .f32⟩
  | .hbm, ⟨2, _⟩ => ⟨S1000x5x512, .f32⟩
  | .hbm, ⟨3, _⟩ => ⟨S1000x72x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S1, .f32⟩
  | .hbm, ⟨12, _⟩ => ⟨S1x512, .f32⟩
  | .hbm, ⟨13, _⟩ => ⟨S1x512, .f32⟩
  | .hbm, ⟨14, _⟩ => ⟨S1x1, .f32⟩
  | .hbm, ⟨15, _⟩ => ⟨S512x1024, .f32⟩
  | .hbm, ⟨16, _⟩ => ⟨S1000x512, .f32⟩
  | .hbm, ⟨17, _⟩ => ⟨S256x1000, .f32⟩
  | .local _ .vmem, ⟨0, _⟩ => ⟨S8x5x512, .f32⟩
  | .local _ .vmem, ⟨1, _⟩ => ⟨S8x5x512, .f32⟩
  | .local _ .vmem, ⟨2, _⟩ => ⟨S8x72x512, .f32⟩
  | .local _ .vmem, ⟨3, _⟩ => ⟨S8x72x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S128x768, .f32⟩
  | .local _ .vmem, ⟨13, _⟩ => ⟨S128x768, .f32⟩
  | .local _ .vmem, ⟨14, _⟩ => ⟨S768x512, .f32⟩
  | .local _ .vmem, ⟨15, _⟩ => ⟨S1000x512, .f32⟩
  | .local _ .vmem, ⟨16, _⟩ => ⟨S1x1, .f32⟩
  | .local _ .vmem, ⟨17, _⟩ => ⟨S128x1000, .f32⟩
  | .local _ .vmem, ⟨18, _⟩ => ⟨S128x1000, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x5x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x72x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1000x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S256x768 : Shape := ⟨2, ![256, 768]⟩
abbrev S768x512 : Shape := ⟨2, ![768, 512]⟩
abbrev S1000x5x512 : Shape := ⟨3, ![1000, 5, 512]⟩
abbrev S1000x72x512 : Shape := ⟨3, ![1000, 72, 512]⟩
abbrev S512 : Shape := ⟨1, ![512]⟩
abbrev S512x512 : Shape := ⟨2, ![512, 512]⟩
abbrev S1 : Shape := ⟨1, ![1]⟩
abbrev S256x512 : Shape := ⟨2, ![256, 512]⟩
abbrev S_ : Shape := ⟨0, ![]⟩
abbrev S256 : Shape := ⟨1, ![256]⟩
abbrev S256x1 : Shape := ⟨2, ![256, 1]⟩
abbrev S1000x77x512 : Shape := ⟨3, ![1000, 77, 512]⟩
abbrev S1000x77 : Shape := ⟨2, ![1000, 77]⟩
abbrev S1000x77x1 : Shape := ⟨3, ![1000, 77, 1]⟩
abbrev S1x1x512 : Shape := ⟨3, ![1, 1, 512]⟩
abbrev S1000x77x8x64 : Shape := ⟨4, ![1000, 77, 8, 64]⟩
abbrev S1000x8x77x77 : Shape := ⟨4, ![1000, 8, 77, 77]⟩
abbrev S1000x8x77 : Shape := ⟨3, ![1000, 8, 77]⟩
abbrev S1000x8x77x1 : Shape := ⟨4, ![1000, 8, 77, 1]⟩
abbrev S1000x8x64x77 : Shape := ⟨4, ![1000, 8, 64, 77]⟩
abbrev S1000x77x77 : Shape := ⟨3, ![1000, 77, 77]⟩
abbrev S1000x1x5 : Shape := ⟨3, ![1000, 1, 5]⟩
abbrev S1000x5 : Shape := ⟨2, ![1000, 5]⟩
abbrev S1000 : Shape := ⟨1, ![1000]⟩
abbrev S1000x1 : Shape := ⟨2, ![1000, 1]⟩
abbrev S1000x5x1 : Shape := ⟨3, ![1000, 5, 1]⟩
abbrev S1000x1x512 : Shape := ⟨3, ![1000, 1, 512]⟩
abbrev S1000x512 : Shape := ⟨2, ![1000, 512]⟩
abbrev S512x1000 : Shape := ⟨2, ![512, 1000]⟩
abbrev S256x1000 : Shape := ⟨2, ![256, 1000]⟩

abbrev nBuf : Space → Nat
  | .hbm => 210
  | .vmem => 0
  | .smem => 0
  | _ => 0

abbrev hbmTy0_0 (i : Nat) : BufTy := match i % 128 with
  | 0 => ⟨S256x768, .f32⟩
  | 1 => ⟨S768x512, .f32⟩
  | 2 => ⟨S1000x5x512, .f32⟩
  | 3 => ⟨S1000x72x512, .f32⟩
  | 4 => ⟨S512, .f32⟩
  | 5 => ⟨S512, .f32⟩
  | 6 => ⟨S512x512, .f32⟩
  | 7 => ⟨S512x512, .f32⟩
  | 8 => ⟨S512x512, .f32⟩
  | 9 => ⟨S512x512, .f32⟩
  | 10 => ⟨S512x512, .f32⟩
  | 11 => ⟨S1, .f32⟩
  | 12 => ⟨S256x512, .f32⟩
  | 13 => ⟨S256x512, .f32⟩
  | 14 => ⟨S_, .f32⟩
  | 15 => ⟨S256, .f32⟩
  | 16 => ⟨S256x1, .f32⟩
  | 17 => ⟨S256x1, .f32⟩
  | 18 => ⟨S256x512, .f32⟩
  | 19 => ⟨S256x512, .f32⟩
  | 20 => ⟨S1000x77x512, .f32⟩
  | 21 => ⟨S_, .f32⟩
  | 22 => ⟨S1000x77, .f32⟩
  | 23 => ⟨S1000x77x1, .f32⟩
  | 24 => ⟨S_, .f32⟩
  | 25 => ⟨S1000x77x1, .f32⟩
  | 26 => ⟨S1000x77x1, .f32⟩
  | 27 => ⟨S_, .i32⟩
  | 28 => ⟨S_, .f32⟩
  | 29 => ⟨S1000x77, .f32⟩
  | 30 => ⟨S1000x77x1, .f32⟩
  | 31 => ⟨S_, .f32⟩
  | 32 => ⟨S1000x77x1, .f32⟩
  | 33 => ⟨S1000x77x1, .f32⟩
  | 34 => ⟨S1000x77x512, .f32⟩
  | 35 => ⟨S1000x77x512, .f32⟩
  | 36 => ⟨S1000x77x512, .f32⟩
  | 37 => ⟨S_, .f32⟩
  | 38 => ⟨S_, .f32⟩
  | 39 => ⟨S_, .f32⟩
  | 40 => ⟨S_, .f32⟩
  | 41 => ⟨S1000x77, .f32⟩
  | 42 => ⟨S1000x77x1, .f32⟩
  | 43 => ⟨S1000x77x1, .f32⟩
  | 44 => ⟨S1000x77x1, .f32⟩
  | 45 => ⟨S_, .f32⟩
  | 46 => ⟨S_, .i1⟩
  | 47 => ⟨S_, .f32⟩
  | 48 => ⟨S_, .f32⟩
  | 49 => ⟨S1000x77x1, .f32⟩
  | 50 => ⟨S1000x77x1, .f32⟩
  | 51 => ⟨S1000x77x512, .f32⟩
  | 52 => ⟨S1000x77x512, .f32⟩
  | 53 => ⟨S_, .f32⟩
  | 54 => ⟨S1000x77x1, .f32⟩
  | 55 => ⟨S1000x77x1, .f32⟩
  | 56 => ⟨S1000x77x1, .f32⟩
  | 57 => ⟨S1000x77x512, .f32⟩
  | 58 => ⟨S1000x77x512, .f32⟩
  | 59 => ⟨S1x1x512, .f32⟩
  | 60 => ⟨S1000x77x512, .f32⟩
  | 61 => ⟨S1000x77x512, .f32⟩
  | 62 => ⟨S1x1x512, .f32⟩
  | 63 => ⟨S1000x77x512, .f32⟩
  | 64 => ⟨S1000x77x512, .f32⟩
  | 65 => ⟨S1000x77x512, .f32⟩
  | 66 => ⟨S1000x77x8x64, .f32⟩
  | 67 => ⟨S1000x77x512, .f32⟩
  | 68 => ⟨S1000x77x8x64, .f32⟩
  | 69 => ⟨S1000x77x512, .f32⟩
  | 70 => ⟨S1000x77x8x64, .f32⟩
  | 71 => ⟨S1000x8x77x77, .f32⟩
  | 72 => ⟨S_, .f32⟩
  | 73 => ⟨S_, .f32⟩
  | 74 => ⟨S1000x8x77x77, .f32⟩
  | 75 => ⟨S1000x8x77x77, .f32⟩
  | 76 => ⟨S_, .f32⟩
  | 77 => ⟨S1000x8x77, .f32⟩
  | 78 => ⟨S_, .f32⟩
  | 79 => ⟨S1000x8x77, .f32⟩
  | 80 => ⟨S1000x8x77, .f32⟩
  | 81 => ⟨S1000x8x77x1, .f32⟩
  | 82 => ⟨S1000x8x77x77, .f32⟩
  | 83 => ⟨S1000x8x77x77, .f32⟩
  | 84 => ⟨S1000x8x77x77, .f32⟩
  | 85 => ⟨S_, .f32⟩
  | 86 => ⟨S1000x8x77, .f32⟩
  | 87 => ⟨S1000x8x77x1, .f32⟩
  | 88 => ⟨S1000x8x77x77, .f32⟩
  | 89 => ⟨S1000x8x77x77, .f32⟩
  | 90 => ⟨S1000x8x64x77, .f32⟩
  | 91 => ⟨S1000x77x8x64, .f32⟩
  | 92 => ⟨S1000x77x512, .f32⟩
  | 93 => ⟨S1000x77x512, .f32⟩
  | 94 => ⟨S1000x77x512, .f32⟩
  | 95 => ⟨S_, .f32⟩
  | 96 => ⟨S1000x77x77, .f32⟩
  | 97 => ⟨S_, .f32⟩
  | 98 => ⟨S1000x77x77, .f32⟩
  | 99 => ⟨S1000x77x77, .f32⟩
  | 100 => ⟨S1000x1x5, .f32⟩
  | 101 => ⟨S1000x5, .f32⟩
  | 102 => ⟨S_, .f32⟩
  | 103 => ⟨S1000, .f32⟩
  | 104 => ⟨S_, .f32⟩
  | 105 => ⟨S1000, .f32⟩
  | 106 => ⟨S1000, .f32⟩
  | 107 => ⟨S1000x1, .f32⟩
  | 108 => ⟨S1000x5, .f32⟩
  | 109 => ⟨S1000x5, .f32⟩
  | 110 => ⟨S1000x5, .f32⟩
  | 111 => ⟨S_, .f32⟩
  | 112 => ⟨S1000, .f32⟩
  | 113 => ⟨S1000x1, .f32⟩
  | 114 => ⟨S1000x5, .f32⟩
  | 115 => ⟨S1000x5, .f32⟩
  | 116 => ⟨S1000x5x1, .f32⟩
  | 117 => ⟨S1000x5x512, .f32⟩
  | 118 => ⟨S1000x5x512, .f32⟩
  | 119 => ⟨S1000x77x512, .f32⟩
  | 120 => ⟨S_, .f32⟩
  | 121 => ⟨S1000x77, .f32⟩
  | 122 => ⟨S1000x77x1, .f32⟩
  | 123 => ⟨S_, .f32⟩
  | 124 => ⟨S1000x77x1, .f32⟩
  | 125 => ⟨S1000x77x1, .f32⟩
  | 126 => ⟨S_, .i32⟩
  | 127 => ⟨S_, .f32⟩
  | _ => ⟨S256x768, .f32⟩

abbrev hbmTy0_1 (i : Nat) : BufTy := match i % 128 with
  | 0 => ⟨S1000x77, .f32⟩
  | 1 => ⟨S1000x77x1, .f32⟩
  | 2 => ⟨S_, .f32⟩
  | 3 => ⟨S1000x77x1, .f32⟩
  | 4 => ⟨S1000x77x1, .f32⟩
  | 5 => ⟨S1000x77x512, .f32⟩
  | 6 => ⟨S1000x77x512, .f32⟩
  | 7 => ⟨S1000x77x512, .f32⟩
  | 8 => ⟨S_, .f32⟩
  | 9 => ⟨S_, .f32⟩
  | 10 => ⟨S_, .f32⟩
  | 11 => ⟨S_, .f32⟩
  | 12 => ⟨S1000x77, .f32⟩
  | 13 => ⟨S1000x77x1, .f32⟩
  | 14 => ⟨S1000x77x1, .f32⟩
  | 15 => ⟨S1000x77x1, .f32⟩
  | 16 => ⟨S_, .f32⟩
  | 17 => ⟨S_, .i1⟩
  | 18 => ⟨S_, .f32⟩
  | 19 => ⟨S_, .f32⟩
  | 20 => ⟨S1000x77x1, .f32⟩
  | 21 => ⟨S1000x77x1, .f32⟩
  | 22 => ⟨S1000x77x512, .f32⟩
  | 23 => ⟨S1000x77x512, .f32⟩
  | 24 => ⟨S_, .f32⟩
  | 25 => ⟨S1000x77x1, .f32⟩
  | 26 => ⟨S1000x77x1, .f32⟩
  | 27 => ⟨S1000x77x1, .f32⟩
  | 28 => ⟨S1000x77x512, .f32⟩
  | 29 => ⟨S1000x77x512, .f32⟩
  | 30 => ⟨S1x1x512, .f32⟩
  | 31 => ⟨S1000x77x512, .f32⟩
  | 32 => ⟨S1000x77x512, .f32⟩
  | 33 => ⟨S1x1x512, .f32⟩
  | 34 => ⟨S1000x77x512, .f32⟩
  | 35 => ⟨S1000x77x512, .f32⟩
  | 36 => ⟨S1000x77x512, .f32⟩
  | 37 => ⟨S1000x77x8x64, .f32⟩
  | 38 => ⟨S1000x77x512, .f32⟩
  | 39 => ⟨S1000x77x8x64, .f32⟩
  | 40 => ⟨S1000x77x512, .f32⟩
  | 41 => ⟨S1000x77x8x64, .f32⟩
  | 42 => ⟨S1000x8x77x77, .f32⟩
  | 43 => ⟨S_, .f32⟩
  | 44 => ⟨S_, .f32⟩
  | 45 => ⟨S1000x8x77x77, .f32⟩
  | 46 => ⟨S1000x8x77x77, .f32⟩
  | 47 => ⟨S_, .f32⟩
  | 48 => ⟨S1000x8x77, .f32⟩
  | 49 => ⟨S_, .f32⟩
  | 50 => ⟨S1000x8x77, .f32⟩
  | 51 => ⟨S1000x8x77, .f32⟩
  | 52 => ⟨S1000x8x77x1, .f32⟩
  | 53 => ⟨S1000x8x77x77, .f32⟩
  | 54 => ⟨S1000x8x77x77, .f32⟩
  | 55 => ⟨S1000x8x77x77, .f32⟩
  | 56 => ⟨S_, .f32⟩
  | 57 => ⟨S1000x8x77, .f32⟩
  | 58 => ⟨S1000x8x77x1, .f32⟩
  | 59 => ⟨S1000x8x77x77, .f32⟩
  | 60 => ⟨S1000x8x77x77, .f32⟩
  | 61 => ⟨S1000x8x64x77, .f32⟩
  | 62 => ⟨S1000x77x8x64, .f32⟩
  | 63 => ⟨S1000x77x512, .f32⟩
  | 64 => ⟨S1000x77x512, .f32⟩
  | 65 => ⟨S1000x77x512, .f32⟩
  | 66 => ⟨S1000x1x512, .f32⟩
  | 67 => ⟨S1000x512, .f32⟩
  | 68 => ⟨S1000x512, .f32⟩
  | 69 => ⟨S1000x512, .f32⟩
  | 70 => ⟨S_, .f32⟩
  | 71 => ⟨S1000, .f32⟩
  | 72 => ⟨S1000x1, .f32⟩
  | 73 => ⟨S1000x1, .f32⟩
  | 74 => ⟨S1000x512, .f32⟩
  | 75 => ⟨S1000x512, .f32⟩
  | 76 => ⟨S_, .f32⟩
  | 77 => ⟨S_, .f32⟩
  | 78 => ⟨S512x1000, .f32⟩
  | 79 => ⟨S256x1000, .f32⟩
  | 80 => ⟨S256x1000, .f32⟩
  | 81 => ⟨S256x1000, .f32⟩
  | _ => ⟨S256x768, .f32⟩

abbrev hbmTy (i : Nat) : BufTy := match i / 128 with
  | 0 => hbmTy0_0 i
  | 1 => hbmTy0_1 i
  | _ => ⟨S256x768, .f32⟩

abbrev bufTy : (tb : Table) → Fin (tcTables nBuf tb) → BufTy
  | .hbm, ⟨i, _⟩ => hbmTy i
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_cst_3 : Ref sig .tc := ⟨.hbm, 45, rfl⟩
abbrev main_call1_v13 : Ref sig .tc := ⟨.hbm, 46, rfl⟩
abbrev main_call1_cst_4 : Ref sig .tc := ⟨.hbm, 47, rfl⟩
abbrev main_call1_call0_v0 : Ref sig .tc := ⟨.hbm, 48, rfl⟩
abbrev main_call1_call0_v1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_3 : Ref sig .tc := ⟨.hbm, 76, rfl⟩
abbrev main_v33 : Ref sig .tc := ⟨.hbm, 77, rfl⟩
abbrev main_cst_4 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_5 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_6 : Ref sig .tc := ⟨.hbm, 95, rfl⟩
abbrev main_v49 : Ref sig .tc := ⟨.hbm, 96, rfl⟩
abbrev main_cst_7 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_8 : Ref sig .tc := ⟨.hbm, 102, rfl⟩
abbrev main_v54 : Ref sig .tc := ⟨.hbm, 103, rfl⟩
abbrev main_cst_9 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_10 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_11 : Ref sig .tc := ⟨.hbm, 120, rfl⟩
abbrev main_v69 : Ref sig .tc := ⟨.hbm, 121, rfl⟩
abbrev main_v70 : Ref sig .tc := ⟨.hbm, 122, rfl⟩
abbrev main_cst_12 : Ref sig .tc := ⟨.hbm, 123, rfl⟩
abbrev main_v71 : Ref sig .tc := ⟨.hbm, 124, rfl⟩
abbrev main_v72 : Ref sig .tc := ⟨.hbm, 125, rfl⟩
abbrev main_c_13 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_v7 : Ref sig .tc := ⟨.hbm, 136, rfl⟩
abbrev main_call2_cst_1 : Ref sig .tc := ⟨.hbm, 137, rfl⟩
abbrev main_call2_v8 : Ref sig .tc := ⟨.hbm, 138, rfl⟩
abbrev main_call2_cst_2 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_v12 : Ref sig .tc := ⟨.hbm, 143, rfl⟩
abbrev main_call2_cst_3 : Ref sig .tc := ⟨.hbm, 144, rfl⟩
abbrev main_call2_v13 : Ref sig .tc := ⟨.hbm, 145, rfl⟩
abbrev main_call2_cst_4 : Ref sig .tc := ⟨.hbm, 146, rfl⟩
abbrev main_call2_call0_v0 : Ref sig .tc := ⟨.hbm, 147, rfl⟩
abbrev main_call2_call0_v1 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_cst_14 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_15 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_16 : Ref sig .tc := ⟨.hbm, 175, rfl⟩
abbrev main_v97 : Ref sig .tc := ⟨.hbm, 176, rfl⟩
abbrev main_cst_17 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_18 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_call3_v0 : Ref sig .tc := ⟨.hbm, 197, rfl⟩
abbrev main_call3_cst : Ref sig .tc := ⟨.hbm, 198, rfl⟩
abbrev main_call3_v1 : Ref sig .tc := ⟨.hbm, 199, rfl⟩
abbrev main_call3_v2 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩

abbrev nD : Nat := 1
abbrev τ : Topo := Topo.v7x

variable {F : FTy → Type} [FloatOps F]
-- ==== Proof.Arith.lean ====
module

public import Idealize.ShloMosaic.Lib.Pointwise
public import Idealize.ShloMosaic.PureOps.Ideal
public import Idealize.ShloMosaic.PureOps.IdealRules

/-! The extended reals at finite values: each operation of the two programs, applied to real numbers, is the
    real operation. -/

@[expose] public section

noncomputable section

namespace Cert.Txt

open Idealize.ShloMosaic

/-- A finite sum of real numbers, taken in the extended reals. -/
theorem sum_real {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero. -/
theorem div_real {a b : ℝ} (h : b ≠ 0) : Ideal.div (a : EReal) (b : EReal) = ((a / b : ℝ) : EReal) := by
  rw [Ideal.div_coe h, ← EReal.coe_mul, mul_one_div]

/-- The reciprocal square root of a positive real number. -/
theorem rsqrt_real {a : ℝ} (h : 0 < a) : Ideal.rsqrt (a : EReal) = (((Real.sqrt a)⁻¹ : ℝ) : EReal) := by
  rw [Ideal.rsqrt_coe, if_neg h.not_gt, if_neg h.ne']

/-- The largest of finitely many real numbers, at least one. -/
def top {n : ℕ} [NeZero n] (f : Fin n → ℝ) : ℝ := Finset.univ.sup' Finset.univ_nonempty f

/-- The maximum of finitely many real numbers, started from minus infinity in the extended reals. -/
theorem max_real {n : ℕ} [NeZero n] (f : Fin n → ℝ) :
    Finset.univ.fold max (⊥ : EReal) (fun k => (f k : EReal)) = (top f : EReal) := by
  have h1 : ∀ s : Finset (Fin n), s.fold max (⊥ : EReal) (fun k => (f k : EReal)) = s.sup (fun k => (f k : EReal)) := by
    intro s
    rfl
  rw [h1, ← Finset.sup'_eq_sup Finset.univ_nonempty]
  unfold top
  apply le_antisymm
  · exact Finset.sup'_le _ _ fun k _ => EReal.coe_le_coe_iff.2 (Finset.le_sup' f (Finset.mem_univ k))
  · obtain ⟨k, -, hk⟩ := Finset.exists_mem_eq_sup' Finset.univ_nonempty f
    rw [hk]
    exact Finset.le_sup' (fun k => (f k : EReal)) (Finset.mem_univ k)

/-- The larger of two real numbers. -/
theorem max_coe (a b : ℝ) : max (a : EReal) (b : EReal) = ((max a b : ℝ) : EReal) :=
  (EReal.coe_strictMono.monotone.map_max).symm

/-- The number the layer norm adds to a variance. -/
def eps : ℝ := 10995116 * (2 ^ 40)⁻¹

/-- The epsilon word reads as the real epsilon. -/
theorem ofBits_eps : Ideal.ofBits .f32 0x3727C5AC#32 = ((eps : ℝ) : EReal) := by
  unfold eps
  simp [Ideal.ofBits, Ideal.ieee]

/-- Epsilon is positive. -/
theorem eps_pos : 0 < eps := by
  unfold eps
  positivity

/-- The word for 512 reads as 512. -/
theorem ofBits_512 : Ideal.ofBits .f32 0x44000000#32 = ((512 : ℝ) : EReal) := by
  simp [Ideal.ofBits, Ideal.ieee]; rw [← EReal.coe_mul]; norm_num

/-- The word for 64 reads as 64. -/
theorem ofBits_64 : Ideal.ofBits .f32 0x42800000#32 = ((64 : ℝ) : EReal) := by
  simp [Ideal.ofBits, Ideal.ieee]; rw [← EReal.coe_mul]; norm_num

/-- The word for 8 reads as 8. -/
theorem ofBits_8 : Ideal.ofBits .f32 0x41000000#32 = ((8 : ℝ) : EReal) := by
  simp [Ideal.ofBits, Ideal.ieee]; rw [← EReal.coe_mul]; norm_num

/-- The word for 1 reads as 1. -/
theorem ofBits_1 : Ideal.ofBits .f32 0x3F800000#32 = ((1 : ℝ) : EReal) := by
  simp [Ideal.ofBits, Ideal.ieee]; rw [← EReal.coe_mul, ← EReal.coe_one]; norm_num

/-- The word for minus infinity reads as the least value. -/
theorem ofBits_ninf : Ideal.ofBits .f32 0xFF800000#32 = ⊥ := by
  simp [Ideal.ofBits, Ideal.ieee]

/-- The word for infinity reads as the greatest value. -/
theorem ofBits_inf : Ideal.ofBits .f32 0x7F800000#32 = ⊤ := by
  simp [Ideal.ofBits, Ideal.ieee]

/-- The square root of 64 is 8. -/
theorem sqrt_64 : Real.sqrt 64 = 8 := by
  rw [show (64 : ℝ) = 8 ^ 2 by norm_num]; exact Real.sqrt_sq (by norm_num)

end Cert.Txt

end
-- ==== Proof.Model.lean ====
module

public import proofs.«01_k».proof.Proof.Arith

/-! The quantities the kernel computes for one class, as real numbers: `c` holds the five context tokens of the
    class, `s` its seventy-two other tokens, `g` and `b` the layer norm's scale and shift. -/

@[expose] public section

noncomputable section

namespace Cert.Txt

/-- One token: 512 real numbers. -/
abbrev Row := Fin 512 → ℝ

/-- The mean of a token. -/
def mean (x : Row) : ℝ := (∑ d, x d) / 512

/-- A token less its mean. -/
def dev (x : Row) (d : Fin 512) : ℝ := x d - mean x

/-- The variance of a token. -/
def var (x : Row) : ℝ := (∑ d, dev x d * dev x d) / 512

/-- The layer norm of a token. -/
def ln (g b : Row) (x : Row) (d : Fin 512) : ℝ := dev x d * (Real.sqrt (var x + eps))⁻¹ * g d + b d

/-- A token times a square matrix. -/
def proj (h : Row) (w : Fin 512 → Row) (e : Fin 512) : ℝ := ∑ d, h d * w d e

/-- One where lane `e` belongs to head `h`, zero elsewhere. -/
def mask (h : Fin 8) (e : Fin 512) : ℝ := if e.val / 64 = h.val then 1 else 0

/-- The scaled query of head `h`, spread over all the lanes. -/
def qm (q : Row) (h : Fin 8) (e : Fin 512) : ℝ := q e * (Real.sqrt 64)⁻¹ * mask h e

/-- The scores of the masked query against some keys. -/
def sc {n : ℕ} (q : Fin 8 → Row) (k : Fin n → Row) (h : Fin 8) (p : Fin n) : ℝ := ∑ e, q h e * k p e

/-- The largest of the 5 and the 72 scores of a head. -/
def mx (a : Fin 5 → ℝ) (b : Fin 72 → ℝ) : ℝ := max (top a) (top b)

/-- The sum of the exponentials of the 5 and the 72 scores, less a number `m`. -/
def zz (m : ℝ) (a : Fin 5 → ℝ) (b : Fin 72 → ℝ) : ℝ := ∑ p, Real.exp (a p - m) + ∑ s, Real.exp (b s - m)

/-- The attention of the last token to context token `p`, the mean over the heads. -/
def am (a : Fin 8 → Fin 5 → ℝ) (b : Fin 8 → Fin 72 → ℝ) (p : Fin 5) : ℝ :=
  (∑ h, Real.exp (a h p - mx (a h) (b h)) / zz (mx (a h) (b h)) (a h) (b h)) / 8

/-- The softmax of five numbers. -/
def soft5 (a : Fin 5 → ℝ) (p : Fin 5) : ℝ := Real.exp (a p - top a) / ∑ p', Real.exp (a p' - top a)

/-- The factor by which the second layer norm scales the first one's result, for a token of variance `v p`
    multiplied by `r p`. -/
def tt (r v : Fin 5 → ℝ) (p : Fin 5) : ℝ :=
  r p * (Real.sqrt (r p * r p * v p + eps))⁻¹ / (Real.sqrt (v p + eps))⁻¹

/-- The part of a score that comes from the layer norm's shift. -/
def uu (q : Fin 8 → Row) (bk : Row) (h : Fin 8) : ℝ := ∑ e, q h e * bk e

/-- The second pass's scores of the context tokens, from the first pass's. -/
def s2 (t : Fin 5 → ℝ) (a : Fin 8 → Fin 5 → ℝ) (u : Fin 8 → ℝ) (h : Fin 8) (p : Fin 5) : ℝ :=
  t p * (a h p - u h) + u h

/-- The weighted values of one head's attention, at every lane: `x` the exponentials of the context tokens'
    scores, `y` those of the other tokens'. -/
def hv (x : Fin 5 → ℝ) (y : Fin 72 → ℝ) (t : Fin 5 → ℝ) (vc : Fin 5 → Row) (vs : Fin 72 → Row) (bv : Row)
    (e : Fin 512) : ℝ :=
  ∑ p, x p / (∑ p', x p' + ∑ s, y s) * t p * vc p e + ∑ s, y s / (∑ p', x p' + ∑ s', y s') * vs s e
    + (∑ p, x p / (∑ p', x p' + ∑ s, y s) - ∑ p, x p / (∑ p', x p' + ∑ s, y s) * t p) * bv e

/-- The heads' weighted values put side by side. -/
def mix (x : Fin 8 → Fin 5 → ℝ) (y : Fin 8 → Fin 72 → ℝ) (t : Fin 5 → ℝ) (vc : Fin 5 → Row) (vs : Fin 72 → Row)
    (bv : Row) (e : Fin 512) : ℝ :=
  ∑ h, hv (x h) (y h) t vc vs bv e * mask h e

section oneClass

variable (g b : Row) (wq wk wv : Fin 512 → Row) (c : Fin 5 → Row) (s : Fin 72 → Row)

/-- The masked query of the class's last token. -/
def kQ : Fin 8 → Row := qm (proj (ln g b (s 71)) wq)

/-- The first pass's scores of the context tokens. -/
def kA : Fin 8 → Fin 5 → ℝ := sc (kQ g b wq s) fun p => proj (ln g b (c p)) wk

/-- The scores of the other tokens, the same in both passes. -/
def kB : Fin 8 → Fin 72 → ℝ := sc (kQ g b wq s) fun p => proj (ln g b (s p)) wk

/-- The attributions of the context tokens. -/
def kR : Fin 5 → ℝ := soft5 (am (kA g b wq wk c s) (kB g b wq wk s))

/-- The second layer norm's factors. -/
def kT : Fin 5 → ℝ := tt (kR g b wq wk c s) fun p => var (c p)

/-- The second pass's scores of the context tokens. -/
def kS : Fin 8 → Fin 5 → ℝ :=
  s2 (kT g b wq wk c s) (kA g b wq wk c s) (uu (kQ g b wq s) (proj b wk))

/-- The second pass's largest score of each head. -/
def kM (h : Fin 8) : ℝ := mx (kS g b wq wk c s h) (kB g b wq wk s h)

/-- The second pass's attention, the heads side by side. -/
def kO : Row :=
  mix (fun h p => Real.exp (kS g b wq wk c s h p - kM g b wq wk c s h))
    (fun h p => Real.exp (kB g b wq wk s h p - kM g b wq wk c s h)) (kT g b wq wk c s)
    (fun p => proj (ln g b (c p)) wv) (fun p => proj (ln g b (s p)) wv) (proj b wv)

end oneClass

/-- A variance is not negative. -/
theorem var_nonneg (x : Row) : 0 ≤ var x :=
  div_nonneg (Finset.sum_nonneg fun _ _ => mul_self_nonneg _) (by norm_num)

/-- A variance plus epsilon is positive. -/
theorem var_eps_pos (x : Row) : 0 < var x + eps := add_pos_of_nonneg_of_pos (var_nonneg x) eps_pos

/-- The shifted sum of exponentials is positive. -/
theorem zz_pos (m : ℝ) (a : Fin 5 → ℝ) (b : Fin 72 → ℝ) : 0 < zz m a b :=
  add_pos (Finset.sum_pos (fun _ _ => Real.exp_pos _) Finset.univ_nonempty)
    (Finset.sum_pos (fun _ _ => Real.exp_pos _) Finset.univ_nonempty)

/-- Folds the shifted sum of exponentials into its name. -/
theorem zz_fold (m : ℝ) (a : Fin 5 → ℝ) (b : Fin 72 → ℝ) :
    ∑ p, Real.exp (a p - m) + ∑ s, Real.exp (b s - m) = zz m a b := rfl

/-- Folds the greatest score into its name. -/
theorem mx_fold (a : Fin 5 → ℝ) (b : Fin 72 → ℝ) : max (top a) (top b) = mx a b := rfl

/-- Folds the five-way softmax into its name. -/
theorem soft5_fold (a : Fin 5 → ℝ) (p : Fin 5) :
    Real.exp (a p - top a) / ∑ p', Real.exp (a p' - top a) = soft5 a p := rfl

/-- Folds the sum over lanes into its name. -/
theorem uu_fold (q : Fin 8 → Row) (bk : Row) (h : Fin 8) : ∑ e, q h e * bk e = uu q bk h := rfl

/-- Folds the rescaled scores into their name. -/
theorem s2_fold (t : Fin 5 → ℝ) (a : Fin 8 → Fin 5 → ℝ) (u : Fin 8 → ℝ) (h : Fin 8) (p : Fin 5) :
    t p * (a h p - u h) + u h = s2 t a u h p := rfl

/-- A nonempty sum of exponentials is positive. -/
theorem sum_exp_pos {n : ℕ} [NeZero n] (m : ℝ) (a : Fin n → ℝ) : 0 < ∑ p, Real.exp (a p - m) :=
  Finset.sum_pos (fun _ _ => Real.exp_pos _) Finset.univ_nonempty

end Cert.Txt

end
-- ==== Proof.KernelNorm.lean ====
module

public import proofs.«01_k».proof.Proof.Model
public import proofs.«01_k».proof.Proof.Gen.KernelIdeal
public import proofs.«01_k».proof.Proof.Gen.KernelIdeal.Skeleton

/-! The first half of a block of the text kernel's first call, read at an index: the layer norm, keys, values and
    query of every token of the block's eight classes are the real numbers named in `Model`. -/

@[expose] public section

set_option maxRecDepth 16384

noncomputable section

namespace Cert.Txt
open Idealize.ShloMosaic Cert.KernelIdeal Cert.KernelIdeal.Gen

/-- A lane of the key half lies in the joined weight. -/
theorem lo_lt (e : Fin 512) : e.val < 1024 := by omega

/-- A lane of the value half lies in the joined weight. -/
theorem hi_lt (e : Fin 512) : 512 + e.val < 1024 := by omega

/-- The context tokens less their means. -/
theorem pay5_at (v8 : Vec Ideal S8x5x512 .f32) (c : Fin 8 → Fin 5 → Row)
    (hc : ∀ n p d, v8 (ix3 n p d) = (c n p d : EReal)) (n : Fin 8) (p : Fin 5) (d : Fin 512) :
    k0_pay5 (F := Ideal) v8 (ix3 n p d) = (dev (c n p) d : EReal) := by
  pointwise [k0_pay5]
  simp only [hc, ofBits_512, sum_real]
  rw [div_real (by norm_num), ← EReal.coe_sub]; rfl

/-- The context tokens' variances. -/
theorem pay6_at (v8 : Vec Ideal S8x5x512 .f32) (c : Fin 8 → Fin 5 → Row)
    (hc : ∀ n p d, v8 (ix3 n p d) = (c n p d : EReal)) (n : Fin 8) (p : Fin 5) :
    k0_pay6 (F := Ideal) v8 (ix3 n p 0) = (var (c n p) : EReal) := by
  pointwise [k0_pay6]
  simp only [pay5_at v8 c hc, ofBits_512, ← EReal.coe_mul, sum_real]
  rw [div_real (by norm_num)]; rfl

/-- The layer norm of the context tokens. -/
theorem pay7_at (v0 v2 : Vec Ideal S1x512 .f32) (v8 : Vec Ideal S8x5x512 .f32) (g b : Row) (c : Fin 8 → Fin 5 → Row)
    (hg : ∀ d, v0 (ix2 0 d) = (g d : EReal)) (hb : ∀ d, v2 (ix2 0 d) = (b d : EReal))
    (hc : ∀ n p d, v8 (ix3 n p d) = (c n p d : EReal)) (n : Fin 8) (p : Fin 5) (d : Fin 512) :
    k0_pay7 (F := Ideal) v0 v2 v8 (ix3 n p d) = (ln g b (c n p) d : EReal) := by
  pointwise [k0_pay7, k0_pay2, k0_pay3, k0_pay1]
  simp only [pay5_at v8 c hc, pay6_at v8 c hc, hg, hb, ofBits_eps, ← EReal.coe_mul, ← EReal.coe_add,
    rsqrt_real (var_eps_pos _)]
  rfl

/-- The other tokens less their means. -/
theorem pay8_at (v9 : Vec Ideal S8x72x512 .f32) (s : Fin 8 → Fin 72 → Row)
    (hs : ∀ n p d, v9 (ix3 n p d) = (s n p d : EReal)) (n : Fin 8) (p : Fin 72) (d : Fin 512) :
    k0_pay8 (F := Ideal) v9 (ix3 n p d) = (dev (s n p) d : EReal) := by
  pointwise [k0_pay8]
  simp only [hs, ofBits_512, sum_real]
  rw [div_real (by norm_num), ← EReal.coe_sub]; rfl

/-- The layer norm of the other tokens. -/
theorem pay10_at (v0 v2 : Vec Ideal S1x512 .f32) (v9 : Vec Ideal S8x72x512 .f32) (g b : Row) (s : Fin 8 → Fin 72 → Row)
    (hg : ∀ d, v0 (ix2 0 d) = (g d : EReal)) (hb : ∀ d, v2 (ix2 0 d) = (b d : EReal))
    (hs : ∀ n p d, v9 (ix3 n p d) = (s n p d : EReal)) (n : Fin 8) (p : Fin 72) (d : Fin 512) :
    k0_pay10 (F := Ideal) (k0_pay2 v0) (k0_pay3 v2) (k0_pay8 v9) (k0_pay9 v9) (ix3 n p d) = (ln g b (s n p) d : EReal) := by
  pointwise [k0_pay10, k0_pay2, k0_pay3, k0_pay1, k0_pay9]
  simp only [pay8_at v9 s hs, hg, hb, ofBits_eps, ofBits_512, ← EReal.coe_mul, sum_real]
  rw [div_real (by norm_num), ← EReal.coe_add, show (∑ i, dev (s n p) i * dev (s n p) i) / 512 = var (s n p) from rfl,
    rsqrt_real (var_eps_pos (s n p)), ← EReal.coe_mul, ← EReal.coe_mul,
    ← EReal.coe_add]
  rfl

/-- The rows of a flattened block: the context tokens' come first. -/
theorem row_c (n : Fin 8) (p : Fin 5) : n.val * 5 + p.val < 40 := by omega

section products

variable (v4 v5 : FVec Ideal S1x1x512 .f32) (v7 : FVec Ideal S512x1024 .f32) (v29 : FVec Ideal S8x5x512 .f32)
  (v35 : FVec Ideal S8x72x512 .f32) (v38 : FVec Ideal S8x72x1 .f32) (wk wv : Fin 512 → Row)
  (hwk : ∀ (d e : Fin 512), v7 (ix2 d ⟨e, lo_lt e⟩) = (wk d e : EReal))
  (hwv : ∀ (d e : Fin 512), v7 (ix2 d ⟨512 + e, hi_lt e⟩) = (wv d e : EReal))
  (hc : Fin 8 → Fin 5 → Row) (hs : Fin 8 → Fin 72 → Row)
  (hhc : ∀ n p d, v29 (ix3 n p d) = (hc n p d : EReal))
  (hhs : ∀ n p d, k0_pay10 (F := Ideal) v4 v5 v35 v38 (ix3 n p d) = (hs n p d : EReal))

include hwk hhc in
/-- The context tokens' keys. -/
theorem pay12_at (n : Fin 8) (p : Fin 5) (e : Fin 512) :
    k0_pay12 (F := Ideal) v4 v5 v7 v29 v35 v38 (ix3 n p e) = (proj (hc n p) wk e : EReal) := by
  pointwise [k0_pay12, k0_pay11]
  simp only [dif_pos (row_c n p), hhc, hwk, ← EReal.coe_mul, sum_real]
  rfl

include hwv hhc in
/-- The context tokens' values. -/
theorem pay14_at (n : Fin 8) (p : Fin 5) (e : Fin 512) :
    k0_pay14 (F := Ideal) v4 v5 v7 v29 v35 v38 (ix3 n p e) = (proj (hc n p) wv e : EReal) := by
  pointwise [k0_pay14, k0_pay11]
  simp only [dif_pos (row_c n p), hhc, hwv, ← EReal.coe_mul, sum_real]
  rfl

include hwk hhs in
/-- The other tokens' keys. -/
theorem pay13_at (n : Fin 8) (p : Fin 72) (e : Fin 512) :
    k0_pay13 (F := Ideal) v4 v5 v7 v29 v35 v38 (ix3 n p e) = (proj (hs n p) wk e : EReal) := by
  pointwise [k0_pay13, k0_pay11]
  simp only [hhs, hwk, ← EReal.coe_mul, sum_real]
  rfl

include hwv hhs in
/-- The other tokens' values. -/
theorem pay15_at (n : Fin 8) (p : Fin 72) (e : Fin 512) :
    k0_pay15 (F := Ideal) v4 v5 v7 v29 v35 v38 (ix3 n p e) = (proj (hs n p) wv e : EReal) := by
  pointwise [k0_pay15, k0_pay11]
  simp only [hhs, hwv, ← EReal.coe_mul, sum_real]
  rfl

include hhs in
/-- The last token's query. -/
theorem pay16_at (v64 : Vec Ideal S512x512 .f32) (wq : Fin 512 → Row)
    (hwq : ∀ d e, v64 (ix2 d e) = (wq d e : EReal)) (n : Fin 8) (e : Fin 512) :
    k0_pay16 (F := Ideal) v4 v5 v35 v38 v64 (ix2 n e) = (proj (hs n 71) wq e : EReal) := by
  pointwise [k0_pay16]
  simp only [hhs, hwq, ← EReal.coe_mul, sum_real]
  rfl

include hwk in
/-- The shift's key. -/
theorem pay18_at (v2 : Vec Ideal S1x512 .f32) (b : Row) (hb : ∀ d, v2 (ix2 0 d) = (b d : EReal)) (e : Fin 512) :
    k0_pay18 (F := Ideal) (k0_pay1 v2) v7 (ix3 0 0 e) = (proj b wk e : EReal) := by
  pointwise [k0_pay18, k0_pay17, k0_pay1]
  simp only [hb, hwk, ← EReal.coe_mul, sum_real]
  rfl

include hwv in
/-- The shift's value. -/
theorem pay19_at (v2 : Vec Ideal S1x512 .f32) (b : Row) (hb : ∀ d, v2 (ix2 0 d) = (b d : EReal)) (e : Fin 512) :
    k0_pay19 (F := Ideal) (k0_pay1 v2) v7 (ix3 0 0 e) = (proj b wv e : EReal) := by
  pointwise [k0_pay19, k0_pay17, k0_pay1]
  simp only [hb, hwv, ← EReal.coe_mul, sum_real]
  rfl

end products

end Cert.Txt

end
-- ==== Proof.KernelAttn.lean ====
module

public import proofs.«01_k».proof.Proof.KernelNorm

/-! The attention of the last token in a block of the text kernel's first call, read at an index: the masked query,
    the two passes' scores, the attribution and the second layer norm's factor are the real numbers named in
    `Model`. -/

@[expose] public section

set_option maxRecDepth 16384

noncomputable section

namespace Cert.Txt
open Idealize.ShloMosaic Cert.KernelIdeal Cert.KernelIdeal.Gen

/-- The lane numbers of the block. -/
abbrev lanes : IVec S1x8x512 32 := iota .tc S1x8x512 32 [2] iota_S1x8x512_d2_w32

/-- The integer test of a lane against a head, evaluated. -/
theorem head_of_lane : ∀ (h : Fin 8) (e : Fin 512),
    IntOp.cmpi CmpIPredicate.eq
        (Scalar.select
          (IntOp.andi
            (IntOp.cmpi CmpIPredicate.ne
              (IntOp.subi (BitVec.setWidth 32 (IntOp.cmpi CmpIPredicate.sgt (BitVec.ofNat 32 ↑e) 0#32))
                (BitVec.setWidth 32 (IntOp.cmpi CmpIPredicate.slt (BitVec.ofNat 32 ↑e) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑e) 64#32) 0#32))
          (IntOp.subi (IntOp.divsi ArithUnit.vector (BitVec.ofNat 32 ↑e) 64#32) 1#32)
          (IntOp.divsi ArithUnit.vector (BitVec.ofNat 32 ↑e) 64#32))
        (BitVec.ofNat 32 ↑h) = if e.val / 64 = h.val then 1#1 else 0#1 := by
  decide +kernel

/-- The scalar reciprocal root is the ideal one. -/
theorem scalar_rsqrt (x : EReal) : Scalar.rsqrt (F := Ideal) (φ := .f32) x = Ideal.rsqrt x := rfl

/-- The heads' mask: lane `e` belongs to head `e / 64`. -/
theorem pay23_at (h : Fin 8) (e : Fin 512) :
    k0_pay23 (F := Ideal) lanes 64#32 k0_pay20 k0_pay21 k0_pay22 (ix3 0 h e) = (mask h e : EReal) := by
  pointwise [k0_pay23, k0_pay20, k0_pay21, k0_pay22]
  rw [head_of_lane, mask]
  split <;> simp [Scalar.select]

section scores

variable (v55 : FVec Ideal S8x5x512 .f32) (v57 : FVec Ideal S8x72x512 .f32) (v65 : FVec Ideal S8x512 .f32)
  (v71 : IVec S1x8x512 32) (c64 : BitVec 32) (v73 v80 v86 : IVec S1x8x512 32)
  (q : Fin 8 → Row) (kc : Fin 8 → Fin 5 → Row) (ks : Fin 8 → Fin 72 → Row)
  (hm : ∀ h e, k0_pay23 (F := Ideal) v71 c64 v73 v80 v86 (ix3 0 h e) = (mask h e : EReal))
  (hq : ∀ n e, v65 (ix2 n e) = (q n e : EReal))
  (hkc : ∀ n p e, v55 (ix3 n p e) = (kc n p e : EReal))
  (hks : ∀ n p e, v57 (ix3 n p e) = (ks n p e : EReal))

include hm hq in
/-- The masked query. -/
theorem pay24_at (n : Fin 8) (h : Fin 8) (e : Fin 512) :
    k0_pay24 (F := Ideal) v65 v71 c64 v73 v80 v86 (ix3 n h e) = (qm (q n) h e : EReal) := by
  pointwise [k0_pay24]
  simp only [hm, hq, ofBits_64, scalar_rsqrt, rsqrt_real (show (0 : ℝ) < 64 by norm_num), ← EReal.coe_mul]
  rfl

include hm hq hkc in
/-- The first pass's scores of the context tokens. -/
theorem pay25_at (n : Fin 8) (h : Fin 8) (p : Fin 5) :
    k0_pay25 (F := Ideal) v55 v65 v71 c64 v73 v80 v86 (ix3 n h p) = (sc (qm (q n)) (kc n) h p : EReal) := by
  pointwise [k0_pay25]
  simp only [pay24_at v65 v71 c64 v73 v80 v86 q hm hq, hkc, ← EReal.coe_mul, sum_real]
  rfl

include hm hq hks in
/-- The scores of the other tokens. -/
theorem pay26_at (n : Fin 8) (h : Fin 8) (p : Fin 72) :
    k0_pay26 (F := Ideal) v57 v65 v71 c64 v73 v80 v86 (ix3 n h p) = (sc (qm (q n)) (ks n) h p : EReal) := by
  pointwise [k0_pay26]
  simp only [pay24_at v65 v71 c64 v73 v80 v86 q hm hq, hks, ← EReal.coe_mul, sum_real]
  rfl

include hm hq hkc hks in
/-- The attention to the context tokens, the mean over the heads. -/
theorem pay27_at (n : Fin 8) (p : Fin 5) :
    k0_pay27 (F := Ideal) v55 v57 v65 v71 c64 v73 v80 v86 (ix3 n 0 p)
      = (am (sc (qm (q n)) (kc n)) (sc (qm (q n)) (ks n)) p : EReal) := by
  pointwise [k0_pay27]
  simp only [pay25_at v55 v65 v71 c64 v73 v80 v86 q kc hm hq hkc, pay26_at v57 v65 v71 c64 v73 v80 v86 q ks hm hq hks,
    ofBits_ninf, ofBits_8, max_real, max_coe, ← EReal.coe_sub, Ideal.exp_coe, sum_real, ← EReal.coe_add]
  simp only [mx_fold, zz_fold, div_real (zz_pos _ _ _).ne', sum_real]
  rw [div_real (by norm_num)]
  rfl

include hm hq hkc hks in
/-- The largest of the attributions. -/
theorem pay28_at (n : Fin 8) :
    k0_pay28 (F := Ideal) v55 v57 v65 v71 c64 v73 v80 v86 (ix2 n 0)
      = (top (am (sc (qm (q n)) (kc n)) (sc (qm (q n)) (ks n))) : EReal) := by
  pointwise [k0_pay28]
  have h := pay27_at v55 v57 v65 v71 c64 v73 v80 v86 q kc ks hm hq hkc hks
  simp only [h, ofBits_ninf, max_real]

end scores

section second

variable (v20 : FVec Ideal S8x5x1 .f32) (v68 : FVec Ideal S1x1x512 .f32) (v107 : FVec Ideal S8x8x512 .f32)
  (v108 : FVec Ideal S8x8x5 .f32) (v109 : FVec Ideal S8x8x72 .f32) (v131 : FVec Ideal S8x1x5 .f32)
  (v132 : FVec Ideal S8x1 .f32)
  (v : Fin 8 → Fin 5 → ℝ) (a : Fin 8 → Fin 5 → ℝ) (bk : Row) (q : Fin 8 → Fin 8 → Row)
  (x : Fin 8 → Fin 8 → Fin 5 → ℝ) (y : Fin 8 → Fin 8 → Fin 72 → ℝ)
  (hv0 : ∀ n p, 0 ≤ v n p)
  (hv : ∀ n p, v20 (ix3 n p 0) = (v n p : EReal))
  (ha : ∀ n p, v131 (ix3 n 0 p) = (a n p : EReal))
  (hat : ∀ n, v132 (ix2 n 0) = (top (a n) : EReal))
  (hbk : ∀ e, v68 (ix3 0 0 e) = (bk e : EReal))
  (hq : ∀ n h e, v107 (ix3 n h e) = (q n h e : EReal))
  (hx : ∀ n h p, v108 (ix3 n h p) = (x n h p : EReal))
  (hy : ∀ n h p, v109 (ix3 n h p) = (y n h p : EReal))

/-- A scaled variance plus epsilon is positive. -/
theorem soft_var_eps_pos (r v : ℝ) (hv : 0 ≤ v) : 0 < r * r * v + eps :=
  add_pos_of_nonneg_of_pos (mul_nonneg (mul_self_nonneg _) hv) eps_pos

include hv0 hv ha hat in
/-- The factor of the second layer norm. -/
theorem pay29_at (n : Fin 8) (p : Fin 5) :
    k0_pay29 (F := Ideal) v20 v131 v132 (ix3 n 0 p) = (tt (soft5 (a n)) (v n) p : EReal) := by
  have hv1 : ∀ n p, 0 < v n p + eps := fun n p => add_pos_of_nonneg_of_pos (hv0 n p) eps_pos
  fin_cases p
  all_goals
    pointwise [k0_pay29]
    simp only [hv, ha, hat, ofBits_eps, ← EReal.coe_sub, Ideal.exp_coe, sum_real, div_real (sum_exp_pos _ _).ne',
      soft5_fold, ← EReal.coe_mul, ← EReal.coe_add, rsqrt_real (soft_var_eps_pos _ _ (hv0 _ _)), rsqrt_real (hv1 _ _),
      div_real (inv_pos.2 (Real.sqrt_pos.2 (hv1 _ _))).ne']
    rfl

variable (t : Fin 8 → Fin 5 → ℝ) (ht : ∀ n p, k0_pay29 (F := Ideal) v20 v131 v132 (ix3 n 0 p) = (t n p : EReal))

include ht hbk hq hx in
/-- The second pass's scores of the context tokens. -/
theorem pay30_at (n : Fin 8) (h : Fin 8) (p : Fin 5) :
    k0_pay30 (F := Ideal) v20 v68 v107 v108 v131 v132 (ix3 n h p) = (s2 (t n) (x n) (uu (q n) bk) h p : EReal) := by
  pointwise [k0_pay30]
  simp only [ht, hbk, hq, hx, ← EReal.coe_mul, sum_real, uu_fold, ← EReal.coe_sub, ← EReal.coe_add]
  rfl

include ht hbk hq hx hy in
/-- The largest of the second pass's scores. -/
theorem pay31_at (n : Fin 8) (h : Fin 8) :
    k0_pay31 (F := Ideal) v20 v68 v107 v108 v109 v131 v132 (ix3 n h 0)
      = (mx (s2 (t n) (x n) (uu (q n) bk) h) (y n h) : EReal) := by
  pointwise [k0_pay31]
  simp only [pay30_at v20 v68 v107 v108 v131 v132 bk q x hbk hq hx t ht, hy, ofBits_ninf, max_real, max_coe, mx_fold]

include ht hbk hq hx hy in
/-- The exponentials of the second pass's scores of the context tokens. -/
theorem pay32_at (n : Fin 8) (h : Fin 8) (p : Fin 5) :
    k0_pay32 (F := Ideal) v20 v68 v107 v108 v109 v131 v132 (ix3 n h p)
      = (Real.exp (s2 (t n) (x n) (uu (q n) bk) h p - mx (s2 (t n) (x n) (uu (q n) bk) h) (y n h)) : EReal) := by
  pointwise [k0_pay32]
  simp only [pay30_at v20 v68 v107 v108 v131 v132 bk q x hbk hq hx t ht,
    pay31_at v20 v68 v107 v108 v109 v131 v132 bk q x y hbk hq hx hy t ht, ← EReal.coe_sub, Ideal.exp_coe]

include ht hbk hq hx hy in
/-- The second pass's scores of the other tokens, less the largest. -/
theorem pay33_at (n : Fin 8) (h : Fin 8) (s : Fin 72) :
    k0_pay33 (F := Ideal) v20 v68 v107 v108 v109 v131 v132 (ix3 n h s)
      = ((y n h s - mx (s2 (t n) (x n) (uu (q n) bk) h) (y n h) : ℝ) : EReal) := by
  pointwise [k0_pay33]
  simp only [hy, pay31_at v20 v68 v107 v108 v109 v131 v132 bk q x y hbk hq hx hy t ht, ← EReal.coe_sub]

end second

section last

/-- The mixed values as the kernel's arrays: from the exponentials of the scores to the heads put side by side. -/
def kMix (v59 : FVec Ideal S8x5x512 .f32) (v61 : FVec Ideal S8x72x512 .f32) (v70 : FVec Ideal S1x1x512 .f32) (v100 : FVec Ideal S1x8x512 .f32) (v166 : FVec Ideal S8x1x5 .f32) (v184 : FVec Ideal S8x8x5 .f32) (v186 : FVec Ideal S8x8x72 .f32) : FVec Ideal S8x512 .f32 :=
  have v187 : FVec Ideal S8x8x72 .f32 := exp v186
  have v188 : FVec Ideal S8x8 .f32 := multiReduction .add [2] S8x8 v184 0x00000000#32 reduces_S8x8x5_S8x8 (.inl rfl) rfl
  have v189 : FVec Ideal S8x8x1 .f32 := shapeCast S8x8x1 v188 shapeCasts_S8x8_S8x8x1
  have v190 : FVec Ideal S8x8 .f32 := multiReduction .add [2] S8x8 v187 0x00000000#32 reduces_S8x8x72_S8x8 (.inl rfl) rfl
  have v191 : FVec Ideal S8x8x1 .f32 := shapeCast S8x8x1 v190 shapeCasts_S8x8_S8x8x1
  have v192 : FVec Ideal S8x8x1 .f32 := addf v189 v191
  have v193 : FVec Ideal S8x8x5 .f32 := broadcastTo S8x8x5 v192 broadcasts_S8x8x1_S8x8x5
  have v194 : FVec Ideal S8x8x5 .f32 := divf v184 v193
  have v195 : FVec Ideal S8x8x5 .f32 := broadcastTo S8x8x5 v166 broadcasts_S8x1x5_S8x8x5
  have v196 : FVec Ideal S8x8x5 .f32 := mulf v194 v195
  have v197 : FVec Ideal S8x8 .f32 := multiReduction .add [2] S8x8 v194 0x00000000#32 reduces_S8x8x5_S8x8 (.inl rfl) rfl
  have v198 : FVec Ideal S8x8x1 .f32 := shapeCast S8x8x1 v197 shapeCasts_S8x8_S8x8x1
  have v199 : FVec Ideal S8x8 .f32 := multiReduction .add [2] S8x8 v196 0x00000000#32 reduces_S8x8x5_S8x8 (.inl rfl) rfl
  have v200 : FVec Ideal S8x8x1 .f32 := shapeCast S8x8x1 v199 shapeCasts_S8x8_S8x8x1
  have v201 : FVec Ideal S8x8x1 .f32 := subf v198 v200
  have cst_51 : FVec Ideal S8x8x512 .f32 := constant S8x8x512 .f32 0x00000000#32
  have v202 : FVec Ideal S8x8x512 .f32 := matmul dot_S8x8x5_S8x5x512_S8x8x512_2_1_1_2_0_0 none v196 v59 cst_51
  have v203 : FVec Ideal S8x8x72 .f32 := broadcastTo S8x8x72 v192 broadcasts_S8x8x1_S8x8x72
  have v204 : FVec Ideal S8x8x72 .f32 := divf v187 v203
  have cst_52 : FVec Ideal S8x8x512 .f32 := constant S8x8x512 .f32 0x00000000#32
  have v205 : FVec Ideal S8x8x512 .f32 := matmul dot_S8x8x72_S8x72x512_S8x8x512_2_1_1_2_0_0 none v204 v61 cst_52
  have v206 : FVec Ideal S8x8x512 .f32 := addf v202 v205
  have v207 : FVec Ideal S8x8x512 .f32 := broadcastTo S8x8x512 v201 broadcasts_S8x8x1_S8x8x512
  have v208 : FVec Ideal S8x8x512 .f32 := broadcastTo S8x8x512 v70 broadcasts_S1x1x512_S8x8x512
  have v209 : FVec Ideal S8x8x512 .f32 := mulf v207 v208
  have v210 : FVec Ideal S8x8x512 .f32 := addf v206 v209
  have v211 : FVec Ideal S8x8x512 .f32 := broadcastTo S8x8x512 v100 broadcasts_S1x8x512_S8x8x512
  have v212 : FVec Ideal S8x8x512 .f32 := mulf v210 v211
  have v213 : FVec Ideal S8x512 .f32 := multiReduction .add [1] S8x512 v212 0x00000000#32 reduces_S8x8x512_S8x512 (.inl rfl) rfl
  v213

/-- A row less the square root of the sum of its squares: the kernel's normalisation. -/
def kNorm (v220 : FVec Ideal S8x512 .f32) : FVec Ideal S8x512 .f32 :=
  have v221 : FVec Ideal S8x512 .f32 := mulf v220 v220
  have v222 : FVec Ideal S8 .f32 := multiReduction .add [1] S8 v221 0x00000000#32 reduces_S8x512_S8 (.inl rfl) rfl
  have v223 : FVec Ideal S8x1 .f32 := shapeCast S8x1 v222 shapeCasts_S8_S8x1
  have v224 : FVec Ideal S8x1 .f32 := rsqrt v223
  have v225 : FVec Ideal S8x512 .f32 := broadcastTo S8x512 v224 broadcasts_S8x1_S8x512
  have v226 : FVec Ideal S8x512 .f32 := mulf v220 v225
  v226

/-- The text feature before it is normalised. -/
def kTxt (v9 : FVec Ideal S8x72x512 .f32) (v213 : FVec Ideal S8x512 .f32) (v216 v219 : FVec Ideal S512x512 .f32) : FVec Ideal S8x512 .f32 :=
  have v214 : FVec Ideal S8x1x512 .f32 := extractStridedSlice S8x1x512 ![0, 71, 0] v9 slices_S8x72x512_o0_71_0_S8x1x512
  have v215 : FVec Ideal S8x512 .f32 := shapeCast S8x512 v214 shapeCasts_S8x1x512_S8x512
  have cst_56 : FVec Ideal S8x512 .f32 := constant S8x512 .f32 0x00000000#32
  have v217 : FVec Ideal S8x512 .f32 := matmul dot_S8x512_S512x512_S8x512_1_0_0_1_n_n none v213 v216 cst_56
  have v218 : FVec Ideal S8x512 .f32 := addf v215 v217
  have cst_59 : FVec Ideal S8x512 .f32 := constant S8x512 .f32 0x00000000#32
  have v220 : FVec Ideal S8x512 .f32 := matmul dot_S8x512_S512x512_S8x512_1_0_0_1_n_n none v218 v219 cst_59
  v220

/-- The last stored value, written through its parts. -/
theorem pay34_eq (v9 : Vec Ideal S8x72x512 .f32) (v59 : FVec Ideal S8x5x512 .f32) (v61 : FVec Ideal S8x72x512 .f32) (v70 : FVec Ideal S1x1x512 .f32) (v100 : FVec Ideal S1x8x512 .f32) (v166 : FVec Ideal S8x1x5 .f32) (v184 : FVec Ideal S8x8x5 .f32) (v186 : FVec Ideal S8x8x72 .f32) (v216 v219 : Vec Ideal S512x512 .f32) :
    k0_pay34 (F := Ideal) v9 v59 v61 v70 v100 v166 v184 v186 v216 v219
      = kNorm (kTxt v9 (kMix v59 v61 v70 v100 v166 v184 v186) v216 v219) := rfl

variable (v59 : FVec Ideal S8x5x512 .f32) (v61 : FVec Ideal S8x72x512 .f32) (v70 : FVec Ideal S1x1x512 .f32)
  (v100 : FVec Ideal S1x8x512 .f32) (v166 : FVec Ideal S8x1x5 .f32) (v184 : FVec Ideal S8x8x5 .f32)
  (v186 : FVec Ideal S8x8x72 .f32)
  (vc : Fin 8 → Fin 5 → Row) (vs : Fin 8 → Fin 72 → Row) (bv : Row) (t : Fin 8 → Fin 5 → ℝ)
  (x : Fin 8 → Fin 8 → Fin 5 → ℝ) (y : Fin 8 → Fin 8 → Fin 72 → ℝ)

/-- The mixed values at an index. -/
theorem kMix_at (hvc : ∀ n p e, v59 (ix3 n p e) = (vc n p e : EReal))
    (hvs : ∀ n p e, v61 (ix3 n p e) = (vs n p e : EReal))
    (hbv : ∀ e, v70 (ix3 0 0 e) = (bv e : EReal))
    (hm : ∀ h e, v100 (ix3 0 h e) = (mask h e : EReal))
    (ht : ∀ n p, v166 (ix3 n 0 p) = (t n p : EReal))
    (hx : ∀ n h p, v184 (ix3 n h p) = (Real.exp (x n h p) : EReal))
    (hy : ∀ n h p, v186 (ix3 n h p) = (y n h p : EReal)) (n : Fin 8) (e : Fin 512) :
    kMix v59 v61 v70 v100 v166 v184 v186 (ix2 n e)
      = (mix (fun h p => Real.exp (x n h p)) (fun h s => Real.exp (y n h s)) (t n) (vc n) (vs n) bv e : EReal) := by
  pointwise [kMix]
  have hz : ∀ n h, 0 < ∑ p, Real.exp (x n h p) + ∑ s, Real.exp (y n h s) := fun n h =>
    add_pos (Finset.sum_pos (fun _ _ => Real.exp_pos _) Finset.univ_nonempty)
      (Finset.sum_pos (fun _ _ => Real.exp_pos _) Finset.univ_nonempty)
  simp only [hvc, hvs, hbv, hm, ht, hx, hy, Ideal.exp_coe, sum_real, ← EReal.coe_add, div_real (hz _ _).ne',
    ← EReal.coe_mul, ← EReal.coe_sub]
  rfl

/-- The unnormalised text feature at an index. -/
theorem kTxt_at (v9 : FVec Ideal S8x72x512 .f32) (v213 : FVec Ideal S8x512 .f32) (v216 v219 : FVec Ideal S512x512 .f32)
    (n : Fin 8) (e : Fin 512) :
    kTxt v9 v213 v216 v219 (ix2 n e)
      = ∑ i : Fin 512, (v9 (ix3 n 71 i) + ∑ j : Fin 512, v213 (ix2 n j) * v216 (ix2 j i)) * v219 (ix2 i e) := by
  pointwise [kTxt]

/-- The normalised text feature at an index. -/
theorem kNorm_at (v : FVec Ideal S8x512 .f32) (n : Fin 8) (e : Fin 512) :
    kNorm v (ix2 n e) = v (ix2 n e) * Ideal.rsqrt (∑ i : Fin 512, v (ix2 n i) * v (ix2 n i)) := by
  pointwise [kNorm]

end last

end Cert.Txt

end
-- ==== Proof.KernelBlock.lean ====
module

public import proofs.«01_k».proof.Proof.KernelAttn
public import proofs.«01_k».proof.Proof.Gen.KernelIdeal.Frame

/-! What one block of the text kernel's first call leaves in its output buffer, read at an index. -/

@[expose] public section

set_option maxRecDepth 16384

noncomputable section

namespace Cert.Txt
open Idealize.ShloMosaic Cert.KernelIdeal Cert.KernelIdeal.Gen

/-- The two-axis offset is zero. -/
theorem off2 : (![0, 0] : Fin 2 → ℕ) = fun _ => 0 := by decide
/-- The three-axis offset is zero. -/
theorem off3 : (![0, 0, 0] : Fin 3 → ℕ) = fun _ => 0 := by decide

/-- Reading a whole row block gives it back. -/
theorem ld0 (x : Vec Ideal S1x512 .f32) : View.ld (Val := Elt Ideal) x r0_0 = x := View.ld_unit_zero off2 _ x
/-- Reading the whole joined weight gives it back. -/
theorem ld1 (x : Vec Ideal S512x1024 .f32) : View.ld (Val := Elt Ideal) x r0_1 = x := View.ld_unit_zero off2 _ x
/-- Reading the whole context block gives it back. -/
theorem ld2 (x : Vec Ideal S8x5x512 .f32) : View.ld (Val := Elt Ideal) x r0_2 = x := View.ld_unit_zero off3 _ x
/-- Reading the whole suffix block gives it back. -/
theorem ld3 (x : Vec Ideal S8x72x512 .f32) : View.ld (Val := Elt Ideal) x r0_3 = x := View.ld_unit_zero off3 _ x
/-- Reading a whole square weight gives it back. -/
theorem ld4 (x : Vec Ideal S512x512 .f32) : View.ld (Val := Elt Ideal) x r0_4 = x := View.ld_unit_zero off2 _ x

section block

variable (x0 : FVec Ideal S8x5x512 .f32) (x1 : FVec Ideal S8x72x512 .f32) (x2 x3 : FVec Ideal S1x512 .f32)
  (x4 : FVec Ideal S512x512 .f32) (x5 : FVec Ideal S512x1024 .f32) (x6 x7 : FVec Ideal S512x512 .f32)
  (g b : Row) (wq wk wv : Fin 512 → Row) (c : Fin 8 → Fin 5 → Row) (s : Fin 8 → Fin 72 → Row)

/-- The arrays a block reads hold these real numbers. -/
structure Reads : Prop where
  hc : ∀ n p d, x0 (ix3 n p d) = (c n p d : EReal)
  hs : ∀ n p d, x1 (ix3 n p d) = (s n p d : EReal)
  hg : ∀ d, x2 (ix2 0 d) = (g d : EReal)
  hb : ∀ d, x3 (ix2 0 d) = (b d : EReal)
  hq : ∀ d e, x4 (ix2 d e) = (wq d e : EReal)
  hk : ∀ (d e : Fin 512), x5 (ix2 d ⟨e, lo_lt e⟩) = (wk d e : EReal)
  hv : ∀ (d e : Fin 512), x5 (ix2 d ⟨512 + e, hi_lt e⟩) = (wv d e : EReal)

/-- The text feature of a class, before it is normalised, from the class's last token, the attention's result and
    the two last matrices. -/
def feat (xl : Fin 512 → EReal) (o : Row) (wo pr : Fin 512 → Fin 512 → EReal) (e : Fin 512) : EReal :=
  ∑ i, (xl i + ∑ j, (o j : EReal) * wo j i) * pr i e

/-- A row of extended reals times the inverse square root of the sum of its squares. -/
def unit {n : ℕ} (f : Fin n → EReal) (e : Fin n) : EReal := f e * Ideal.rsqrt (∑ i, f i * f i)

/-- One entry of the first launch's output block. -/
theorem out0_8_at (h : Reads x0 x1 x2 x3 x4 x5 g b wq wk wv c s) (n : Fin 8) (e : Fin 512) :
    out0_8 (F := Ideal) x0 x1 x2 x3 x4 x5 x6 x7 (ix2 n e)
      = unit (feat (fun i => x1 (ix3 n 71 i)) (kO g b wq wk wv (c n) (s n)) (fun j i => x6 (ix2 j i))
          fun i e => x7 (ix2 i e)) e := by
  have hk : ∀ (d e : Fin 512), k0_pay4 (F := Ideal) x5 (ix2 d ⟨e, lo_lt e⟩) = (wk d e : EReal) := fun d e => by
    pointwise [k0_pay4]; exact h.hk d e
  have hv : ∀ (d e : Fin 512), k0_pay4 (F := Ideal) x5 (ix2 d ⟨512 + e, hi_lt e⟩) = (wv d e : EReal) := fun d e => by
    pointwise [k0_pay4]; exact h.hv d e
  have h7 := pay7_at x2 x3 x0 g b c h.hg h.hb h.hc
  have h10 := pay10_at x2 x3 x1 g b s h.hg h.hb h.hs
  have h12 := pay12_at (k0_pay2 x2) (k0_pay3 x3) _ _ (k0_pay8 x1) (k0_pay9 x1) wk hk _ h7
  have h14 := pay14_at (k0_pay2 x2) (k0_pay3 x3) _ _ (k0_pay8 x1) (k0_pay9 x1) wv hv _ h7
  have h13 := pay13_at _ _ _ (k0_pay7 x2 x3 x0) _ _ wk hk _ h10
  have h15 := pay15_at _ _ _ (k0_pay7 x2 x3 x0) _ _ wv hv _ h10
  have h16 := pay16_at _ _ _ _ _ h10 x4 wq h.hq
  have h18 := pay18_at _ wk hk x3 b h.hb
  have h19 := pay19_at _ wv hv x3 b h.hb
  have h24 := pay24_at _ _ _ _ _ _ _ pay23_at h16
  have h25 := pay25_at _ _ _ _ _ _ _ _ _ pay23_at h16 h12
  have h26 := pay26_at _ _ _ _ _ _ _ _ _ pay23_at h16 h13
  have h27 := pay27_at _ _ _ _ _ _ _ _ _ _ _ pay23_at h16 h12 h13
  have h28 := pay28_at _ _ _ _ _ _ _ _ _ _ _ pay23_at h16 h12 h13
  have h6 := pay6_at x0 c h.hc
  have h29 := pay29_at _ _ _ _ _ (fun n p => var_nonneg (c n p)) h6 h27 h28
  have h32 := pay32_at _ _ _ _ _ _ _ _ _ _ _ h18 h24 h25 h26 _ h29
  have h33 := pay33_at _ _ _ _ _ _ _ _ _ _ _ h18 h24 h25 h26 _ h29
  have hmix := kMix_at _ _ _ _ _ _ _ _ _ _ _ _ _ h14 h15 h19 pay23_at h29 h32 h33
  unfold_out out0_8
  rw [View.canon_unit_zero off2]
  simp only [ld0, ld1, ld2, ld3, ld4]
  rw [pay34_eq, kNorm_at]
  simp only [kTxt_at, hmix]
  rfl

end block

end Cert.Txt

end
-- ==== Proof.KernelArrays.lean ====
module

public import proofs.«01_k».proof.Proof.KernelBlock
public import Idealize.ShloMosaic.Lib.Pipeline.Value

/-! The array the first call leaves (the normalised text features of the thousand classes) and the array the second
    call leaves (the logits), each as one function of the arrays the calls read. -/

@[expose] public section

set_option maxRecDepth 16384

noncomputable section

namespace Cert.Txt
open Idealize.ShloMosaic Idealize.ShloMosaic.TcCoe Idealize.SL.Sem Cert.KernelIdeal Cert.KernelIdeal.Gen
open Idealize.ShloMosaic.Pipeline (Dat)

/-! ## The second call's block -/

/-- Reading the whole image block gives it back. -/
theorem ldA (x : Vec Ideal S128x768 .f32) : View.ld (Val := Elt Ideal) x r1_0 = x := View.ld_unit_zero off2 _ x
/-- Reading the whole projection gives it back. -/
theorem ldB (x : Vec Ideal S768x512 .f32) : View.ld (Val := Elt Ideal) x r1_1 = x := View.ld_unit_zero off2 _ x
/-- Reading the whole text block gives it back. -/
theorem ldC (x : Vec Ideal S1000x512 .f32) : View.ld (Val := Elt Ideal) x r1_2 = x := View.ld_unit_zero off2 _ x
/-- Reading the whole scale block gives it back. -/
theorem ldD (x : Vec Ideal S1x1 .f32) : View.ld (Val := Elt Ideal) x r1_3 = x := View.ld_unit_zero off2 _ x

/-- A logit: a normalised image feature against a row of the text features, times the exponential of the scale. -/
def logit (f u : Fin 512 → EReal) (l : EReal) : EReal := (∑ e, unit f e * u e) * Ideal.exp l

/-- The scalar exponential is the ideal one. -/
theorem scalar_exp (x : EReal) : Scalar.exp (F := Ideal) (φ := .f32) x = Ideal.exp x := rfl

/-- The second call's block at an index. -/
theorem pay1_at (x0 : FVec Ideal S128x768 .f32) (x1 : FVec Ideal S768x512 .f32) (x2 : FVec Ideal S1000x512 .f32)
    (x3 : FVec Ideal S1x1 .f32) (r : Fin 128) (k : Fin 1000) :
    k1_pay1 (F := Ideal) x0 x1 x2 x3 (ix2 r k)
      = logit (fun e => ∑ q : Fin 768, x0 (ix2 r q) * x1 (ix2 q e)) (fun e => x2 (ix2 k e)) (x3 (ix2 0 0)) := by
  pointwise [k1_pay1]
  simp only [logit, unit, scalar_rsqrt, scalar_exp]

/-- One entry of the second launch's output block. -/
theorem out1_4_at (x0 : FVec Ideal S128x768 .f32) (x1 : FVec Ideal S768x512 .f32) (x2 : FVec Ideal S1000x512 .f32)
    (x3 : FVec Ideal S1x1 .f32) (r : Fin 128) (k : Fin 1000) :
    out1_4 (F := Ideal) x0 x1 x2 x3 (ix2 r k)
      = logit (fun e => ∑ q : Fin 768, x0 (ix2 r q) * x1 (ix2 q e)) (fun e => x2 (ix2 k e)) (x3 (ix2 0 0)) := by
  unfold out1_4
  rw [View.canon_unit_zero off2]
  simp only [ldA, ldB, ldC, ldD]
  exact pay1_at x0 x1 x2 x3 r k

/-! ## Where the blocks lie -/

/-- Block numbers of window 0 of the first launch. -/
theorem index0_0 : ∀ t : Fin grid0.N, win0_0.index t 0 = t.val ∧ win0_0.index t 1 = 0 ∧ win0_0.index t 2 = 0 := by
  decide +kernel
/-- Block numbers of window 1 of the first launch. -/
theorem index0_1 : ∀ t : Fin grid0.N, win0_1.index t 0 = t.val ∧ win0_1.index t 1 = 0 ∧ win0_1.index t 2 = 0 := by
  decide +kernel
/-- Block numbers of window 2 of the first launch. -/
theorem index0_2 : ∀ t : Fin grid0.N, win0_2.index t 0 = 0 ∧ win0_2.index t 1 = 0 := by decide +kernel
/-- Block numbers of window 3 of the first launch. -/
theorem index0_3 : ∀ t : Fin grid0.N, win0_3.index t 0 = 0 ∧ win0_3.index t 1 = 0 := by decide +kernel
/-- Block numbers of window 4 of the first launch. -/
theorem index0_4 : ∀ t : Fin grid0.N, win0_4.index t 0 = 0 ∧ win0_4.index t 1 = 0 := by decide +kernel
/-- Block numbers of window 5 of the first launch. -/
theorem index0_5 : ∀ t : Fin grid0.N, win0_5.index t 0 = 0 ∧ win0_5.index t 1 = 0 := by decide +kernel
/-- Block numbers of window 6 of the first launch. -/
theorem index0_6 : ∀ t : Fin grid0.N, win0_6.index t 0 = 0 ∧ win0_6.index t 1 = 0 := by decide +kernel
/-- Block numbers of window 7 of the first launch. -/
theorem index0_7 : ∀ t : Fin grid0.N, win0_7.index t 0 = 0 ∧ win0_7.index t 1 = 0 := by decide +kernel
/-- Block numbers of window 8 of the first launch. -/
theorem index0_8 : ∀ t : Fin grid0.N, win0_8.index t 0 = t.val ∧ win0_8.index t 1 = 0 := by decide +kernel
/-- Block numbers of window 0 of the second launch. -/
theorem index1_0 : ∀ t : Fin grid1.N, win1_0.index t 0 = t.val ∧ win1_0.index t 1 = 0 := by decide +kernel
/-- Block numbers of window 1 of the second launch. -/
theorem index1_1 : ∀ t : Fin grid1.N, win1_1.index t 0 = 0 ∧ win1_1.index t 1 = 0 := by decide +kernel
/-- Block numbers of window 2 of the second launch. -/
theorem index1_2 : ∀ t : Fin grid1.N, win1_2.index t 0 = 0 ∧ win1_2.index t 1 = 0 := by decide +kernel
/-- Block numbers of window 3 of the second launch. -/
theorem index1_3 : ∀ t : Fin grid1.N, win1_3.index t 0 = 0 ∧ win1_3.index t 1 = 0 := by decide +kernel
/-- Block numbers of window 4 of the second launch. -/
theorem index1_4 : ∀ t : Fin grid1.N, win1_4.index t 0 = t.val ∧ win1_4.index t 1 = 0 := by decide +kernel

/-- The class that row `n` of block `t` is. -/
theorem class_lt (t : Fin grid0.N) (n : Fin 8) : t.val * 8 + n.val < 1000 := by
  have := t.isLt; have := N_0; omega
/-- The class that row `n` of block `t` is. -/
def cls (t : Fin grid0.N) (n : Fin 8) : Fin 1000 := ⟨t.val * 8 + n.val, class_lt t n⟩
/-- An image row of a block is one of the 256 images. -/
theorem image_lt (t : Fin grid1.N) (n : Fin 128) : t.val * 128 + n.val < 256 := by
  have := t.isLt; have := N_1; omega
/-- The image that row `n` of block `t` is. -/
def img (t : Fin grid1.N) (n : Fin 128) : Fin 256 := ⟨t.val * 128 + n.val, image_lt t n⟩

section reads
variable (V : (c : Dev nD) → (b : Ref sig .tc) → Buf (Elt Ideal) ((c : Thread nD τ).loc b)) (c : Dev nD)

/-- One entry of the block that window 0 of the first launch reads. -/
theorem iblk0_0 (t : Fin grid0.N) (n : Fin 8) (p : Fin 5) (d : Fin 512) :
    iblk0 V c 0 t (ix3 n p d) = V c main_arg2 (ix3 (cls t n) p d) := by
  have e := index0_0 t
  show V c main_arg2 (((cfg0.win 0).blk t).view.emb (ix3 n p d)) = _
  refine congrArg _ (funext fun a => Fin.ext ?_)
  match a with
  | ⟨0, _⟩ => show win0_0.index t 0 * 8 + 1 * n.val = t.val * 8 + n.val; rw [e.1]; omega
  | ⟨1, _⟩ => show win0_0.index t 1 * 5 + 1 * p.val = p.val; rw [e.2.1]; omega
  | ⟨2, _⟩ => show win0_0.index t 2 * 512 + 1 * d.val = d.val; rw [e.2.2]; omega

/-- One entry of the block that window 1 of the first launch reads. -/
theorem iblk0_1 (t : Fin grid0.N) (n : Fin 8) (p : Fin 72) (d : Fin 512) :
    iblk0 V c 1 t (ix3 n p d) = V c main_arg3 (ix3 (cls t n) p d) := by
  have e := index0_1 t
  show V c main_arg3 (((cfg0.win 1).blk t).view.emb (ix3 n p d)) = _
  refine congrArg _ (funext fun a => Fin.ext ?_)
  match a with
  | ⟨0, _⟩ => show win0_1.index t 0 * 8 + 1 * n.val = t.val * 8 + n.val; rw [e.1]; omega
  | ⟨1, _⟩ => show win0_1.index t 1 * 72 + 1 * p.val = p.val; rw [e.2.1]; omega
  | ⟨2, _⟩ => show win0_1.index t 2 * 512 + 1 * d.val = d.val; rw [e.2.2]; omega

/-- One entry of the block that window 2 of the first launch reads. -/
theorem iblk0_2 (t : Fin grid0.N) (r : Fin 1) (d : Fin 512) :
    iblk0 V c 2 t (ix2 r d) = V c main_v0 (ix2 r d) := by
  have e := index0_2 t
  show V c main_v0 (((cfg0.win 2).blk t).view.emb (ix2 r d)) = _
  refine congrArg _ (funext fun a => Fin.ext ?_)
  match a with
  | ⟨0, _⟩ => show win0_2.index t 0 * 1 + 1 * r.val = r.val; rw [e.1]; omega
  | ⟨1, _⟩ => show win0_2.index t 1 * 512 + 1 * d.val = d.val; rw [e.2]; omega

/-- One entry of the block that window 3 of the first launch reads. -/
theorem iblk0_3 (t : Fin grid0.N) (r : Fin 1) (d : Fin 512) :
    iblk0 V c 3 t (ix2 r d) = V c main_v1 (ix2 r d) := by
  have e := index0_3 t
  show V c main_v1 (((cfg0.win 3).blk t).view.emb (ix2 r d)) = _
  refine congrArg _ (funext fun a => Fin.ext ?_)
  match a with
  | ⟨0, _⟩ => show win0_3.index t 0 * 1 + 1 * r.val = r.val; rw [e.1]; omega
  | ⟨1, _⟩ => show win0_3.index t 1 * 512 + 1 * d.val = d.val; rw [e.2]; omega

/-- One entry of the block that window 4 of the first launch reads. -/
theorem iblk0_4 (t : Fin grid0.N) (r : Fin 512) (d : Fin 512) :
    iblk0 V c 4 t (ix2 r d) = V c main_arg6 (ix2 r d) := by
  have e := index0_4 t
  show V c main_arg6 (((cfg0.win 4).blk t).view.emb (ix2 r d)) = _
  refine congrArg _ (funext fun a => Fin.ext ?_)
  match a with
  | ⟨0, _⟩ => show win0_4.index t 0 * 512 + 1 * r.val = r.val; rw [e.1]; omega
  | ⟨1, _⟩ => show win0_4.index t 1 * 512 + 1 * d.val = d.val; rw [e.2]; omega

/-- One entry of the block that window 5 of the first launch reads. -/
theorem iblk0_5 (t : Fin grid0.N) (r : Fin 512) (d : Fin 1024) :
    iblk0 V c 5 t (ix2 r d) = V c main_v3 (ix2 r d) := by
  have e := index0_5 t
  show V c main_v3 (((cfg0.win 5).blk t).view.emb (ix2 r d)) = _
  refine congrArg _ (funext fun a => Fin.ext ?_)
  match a with
  | ⟨0, _⟩ => show win0_5.index t 0 * 512 + 1 * r.val = r.val; rw [e.1]; omega
  | ⟨1, _⟩ => show win0_5.index t 1 * 1024 + 1 * d.val = d.val; rw [e.2]; omega

/-- One entry of the block that window 6 of the first launch reads. -/
theorem iblk0_6 (t : Fin grid0.N) (r : Fin 512) (d : Fin 512) :
    iblk0 V c 6 t (ix2 r d) = V c main_arg9 (ix2 r d) := by
  have e := index0_6 t
  show V c main_arg9 (((cfg0.win 6).blk t).view.emb (ix2 r d)) = _
  refine congrArg _ (funext fun a => Fin.ext ?_)
  match a with
  | ⟨0, _⟩ => show win0_6.index t 0 * 512 + 1 * r.val = r.val; rw [e.1]; omega
  | ⟨1, _⟩ => show win0_6.index t 1 * 512 + 1 * d.val = d.val; rw [e.2]; omega

/-- One entry of the block that window 7 of the first launch reads. -/
theorem iblk0_7 (t : Fin grid0.N) (r : Fin 512) (d : Fin 512) :
    iblk0 V c 7 t (ix2 r d) = V c main_arg10 (ix2 r d) := by
  have e := index0_7 t
  show V c main_arg10 (((cfg0.win 7).blk t).view.emb (ix2 r d)) = _
  refine congrArg _ (funext fun a => Fin.ext ?_)
  match a with
  | ⟨0, _⟩ => show win0_7.index t 0 * 512 + 1 * r.val = r.val; rw [e.1]; omega
  | ⟨1, _⟩ => show win0_7.index t 1 * 512 + 1 * d.val = d.val; rw [e.2]; omega

/-- One entry of the block that window 0 of the second launch reads. -/
theorem iblk1_0 (t : Fin grid1.N) (r : Fin 128) (d : Fin 768) :
    iblk1 V c 0 t (ix2 r d) = V c main_arg0 (ix2 (img t r) d) := by
  have e := index1_0 t
  show V c main_arg0 (((cfg1.win 0).blk t).view.emb (ix2 r d)) = _
  refine congrArg _ (funext fun a => Fin.ext ?_)
  match a with
  | ⟨0, _⟩ => show win1_0.index t 0 * 128 + 1 * r.val = t.val * 128 + r.val; rw [e.1]; omega
  | ⟨1, _⟩ => show win1_0.index t 1 * 768 + 1 * d.val = d.val; rw [e.2]; omega

/-- One entry of the block that window 1 of the second launch reads. -/
theorem iblk1_1 (t : Fin grid1.N) (r : Fin 768) (d : Fin 512) :
    iblk1 V c 1 t (ix2 r d) = V c main_arg1 (ix2 r d) := by
  have e := index1_1 t
  show V c main_arg1 (((cfg1.win 1).blk t).view.emb (ix2 r d)) = _
  refine congrArg _ (funext fun a => Fin.ext ?_)
  match a with
  | ⟨0, _⟩ => show win1_1.index t 0 * 768 + 1 * r.val = r.val; rw [e.1]; omega
  | ⟨1, _⟩ => show win1_1.index t 1 * 512 + 1 * d.val = d.val; rw [e.2]; omega

/-- One entry of the block that window 2 of the second launch reads. -/
theorem iblk1_2 (t : Fin grid1.N) (r : Fin 1000) (d : Fin 512) :
    iblk1 V c 2 t (ix2 r d) = V c main_v4 (ix2 r d) := by
  have e := index1_2 t
  show V c main_v4 (((cfg1.win 2).blk t).view.emb (ix2 r d)) = _
  refine congrArg _ (funext fun a => Fin.ext ?_)
  match a with
  | ⟨0, _⟩ => show win1_2.index t 0 * 1000 + 1 * r.val = r.val; rw [e.1]; omega
  | ⟨1, _⟩ => show win1_2.index t 1 * 512 + 1 * d.val = d.val; rw [e.2]; omega

/-- One entry of the block that window 3 of the second launch reads. -/
theorem iblk1_3 (t : Fin grid1.N) (r : Fin 1) (d : Fin 1) :
    iblk1 V c 3 t (ix2 r d) = V c main_v2 (ix2 r d) := by
  have e := index1_3 t
  show V c main_v2 (((cfg1.win 3).blk t).view.emb (ix2 r d)) = _
  refine congrArg _ (funext fun a => Fin.ext ?_)
  match a with
  | ⟨0, _⟩ => show win1_3.index t 0 * 1 + 1 * r.val = r.val; rw [e.1]; omega
  | ⟨1, _⟩ => show win1_3.index t 1 * 1 + 1 * d.val = d.val; rw [e.2]; omega

end reads

/-! ## The first call's array -/

section arrays
variable (V : (c : Dev nD) → (b : Ref sig .tc) → Buf (Elt Ideal) ((c : Thread nD τ).loc b)) (c : Dev nD)
  (g b : Row) (wq wk wv : Fin 512 → Row) (cx : Fin 1000 → Fin 5 → Row) (s : Fin 1000 → Fin 72 → Row)

/-- The arrays the first call reads hold these real numbers. -/
structure Entry : Prop where
  hc : ∀ n p d, V c main_arg2 (ix3 n p d) = (cx n p d : EReal)
  hs : ∀ n p d, V c main_arg3 (ix3 n p d) = (s n p d : EReal)
  hg : ∀ d, V c main_v0 (ix2 0 d) = (g d : EReal)
  hb : ∀ d, V c main_v1 (ix2 0 d) = (b d : EReal)
  hq : ∀ d e, V c main_arg6 (ix2 d e) = (wq d e : EReal)
  hk : ∀ (d e : Fin 512), V c main_v3 (ix2 d ⟨e, lo_lt e⟩) = (wk d e : EReal)
  hv : ∀ (d e : Fin 512), V c main_v3 (ix2 d ⟨512 + e, hi_lt e⟩) = (wv d e : EReal)

/-- The text feature of class `n` before it is normalised. -/
def clsFeat (n : Fin 1000) : Fin 512 → EReal :=
  feat (fun i => (V c main_arg3 (ix3 n 71 i) : EReal)) (kO g b wq wk wv (cx n) (s n))
    (fun j i => (V c main_arg9 (ix2 j i) : EReal)) (fun i e => (V c main_arg10 (ix2 i e) : EReal))

/-- The normalised text features. -/
def feats : FVec Ideal S1000x512 .f32 := fun i => unit (clsFeat V c g b wq wk wv cx s (i 0)) (i 1)

variable (h : Entry V c g b wq wk wv cx s)
include h

/-- At every grid point the first launch's blocks hold the model's real values. -/
theorem reads_of (t : Fin grid0.N) :
    Reads (iblk0 V c 0 t) (iblk0 V c 1 t) (iblk0 V c 2 t) (iblk0 V c 3 t) (iblk0 V c 4 t) (iblk0 V c 5 t)
      g b wq wk wv (fun n => cx (cls t n)) (fun n => s (cls t n)) where
  hc n p d := (iblk0_0 V c t n p d).trans (h.hc _ _ _)
  hs n p d := (iblk0_1 V c t n p d).trans (h.hs _ _ _)
  hg d := (iblk0_2 V c t 0 d).trans (h.hg _)
  hb d := (iblk0_3 V c t 0 d).trans (h.hb _)
  hq d e := (iblk0_4 V c t d e).trans (h.hq _ _)
  hk d e := (iblk0_5 V c t d _).trans (h.hk _ _)
  hv d e := (iblk0_5 V c t d _).trans (h.hv _ _)

/-- What block `t` of the first call holds at an index. -/
theorem block0_at (t : Fin grid0.N) (n : Fin 8) (e : Fin 512) :
    (dat0 V c).after 8 t (ix2 n e) = feats V c g b wq wk wv cx s (ix2 (cls t n) e) := by
  rw [after0_8]
  refine (out0_8_at _ _ _ _ _ _ _ _ _ _ _ _ _ _ _ (reads_of V c g b wq wk wv cx s h t) n e).trans ?_
  simp only [iblk0_1, iblk0_6, iblk0_7]
  rfl

/-- What the first launch writes back at a grid point. -/
theorem flushed0 (t : Fin cfg0.N) :
    (dat0 V c).flushed 8 t = ((cfg0.win 8).blk t).view.read (Elt Ideal) (feats V c g b wq wk wv cx s) := by
  funext j
  obtain ⟨n, e, rfl⟩ : ∃ (n : Fin 8) (e : Fin 512), j = ix2 n e := ⟨j 0, j 1, by funext a; fin_cases a <;> rfl⟩
  have hi := index0_8 t
  refine (block0_at V c g b wq wk wv cx s h t n e).trans ?_
  show feats V c g b wq wk wv cx s _ = feats V c g b wq wk wv cx s (((cfg0.win 8).blk t).view.emb (ix2 n e))
  refine congrArg _ (funext fun a => Fin.ext ?_)
  match a with
  | ⟨0, _⟩ => show t.val * 8 + n.val = win0_8.index t 0 * 8 + 1 * n.val; rw [hi.1]; omega
  | ⟨1, _⟩ => show e.val = win0_8.index t 1 * 512 + 1 * e.val; rw [hi.2]; omega

omit h in
/-- Which entries of the text array a grid point of the first launch owns. -/
theorem mem0 (t : Fin cfg0.N) (i : S1000x512.Idx) (hi : t.val * 8 ≤ (i 0 : Nat) ∧ (i 0 : Nat) < t.val * 8 + 8) :
    i ∈ ((cfg0.win 8).blk t).view.set := by
  show i ∈ ((View.whole main_v4).slice (win0_8.rect t)).set
  rw [View.set_slice_whole, Rect.mem_set_unit]
  have h1 : (i 1 : Nat) < 512 := (i 1).isLt
  have e := index0_8 t
  intro a
  match a with
  | ⟨0, _⟩ => show win0_8.index t 0 * 8 ≤ (i 0 : Nat) ∧ (i 0 : Nat) < win0_8.index t 0 * 8 + 8
              rw [e.1]; exact hi
  | ⟨1, _⟩ => show win0_8.index t 1 * 512 ≤ (i 1 : Nat) ∧ (i 1 : Nat) < win0_8.index t 1 * 512 + 512
              rw [e.2]; omega

omit h in
/-- The first launch's blocks cover the text array. -/
theorem cover0 (i : S1000x512.Idx) : ∃ t : Fin cfg0.N, (cfg0.win 8).flush t = true ∧ i ∈ ((cfg0.win 8).blk t).view.set := by
  have h0 : (i 0 : Nat) < 1000 := (i 0).isLt
  refine ⟨⟨(i 0 : Nat) / 8, by show _ < grid0.N; rw [N_0]; omega⟩, flush0_8 _, mem0 _ i ?_⟩
  dsimp only
  omega

/-- The first call leaves the normalised text features. -/
theorem final0 : (dat0 V c).arrAt 8 cfg0.N = feats V c g b wq wk wv cx s :=
  (dat0 V c).arrAt_eq_of_cover 8 (feats V c g b wq wk wv cx s) (fun t _ => flushed0 V c g b wq wk wv cx s h t) cover0

omit h

/-! ## The second call's array -/

/-- The image feature of image `r`. -/
def imgFeat (x : FVec Ideal S256x768 .f32) (w : FVec Ideal S768x512 .f32) (r : Fin 256) (e : Fin 512) : EReal :=
  ∑ q : Fin 768, x (ix2 r q) * w (ix2 q e)

/-- The logits of the images against the rows of the second call's text array. -/
def logits : FVec Ideal S256x1000 .f32 := fun i =>
  logit (imgFeat (V c main_arg0) (V c main_arg1) (i 0)) (fun e => (V c main_v4 (ix2 (i 1) e) : EReal)) (V c main_v2 (ix2 0 0) : EReal)

/-- One entry of the second launch's block, as an entry of the logits. -/
theorem block1_at (t : Fin grid1.N) (r : Fin 128) (k : Fin 1000) :
    (dat1 V c).after 4 t (ix2 r k) = logits V c (ix2 (img t r) k) := by
  rw [after1_4]
  refine (out1_4_at _ _ _ _ r k).trans ?_
  simp only [iblk1_0, iblk1_1, iblk1_2, iblk1_3]
  rfl

/-- What the second launch writes back at a grid point. -/
theorem flushed1 (t : Fin cfg1.N) :
    (dat1 V c).flushed 4 t = ((cfg1.win 4).blk t).view.read (Elt Ideal) (logits V c) := by
  funext j
  obtain ⟨n, e, rfl⟩ : ∃ (n : Fin 128) (e : Fin 1000), j = ix2 n e := ⟨j 0, j 1, by funext a; fin_cases a <;> rfl⟩
  have hi := index1_4 t
  refine (block1_at V c t n e).trans ?_
  show logits V c _ = logits V c (((cfg1.win 4).blk t).view.emb (ix2 n e))
  refine congrArg _ (funext fun a => Fin.ext ?_)
  match a with
  | ⟨0, _⟩ => show t.val * 128 + n.val = win1_4.index t 0 * 128 + 1 * n.val; rw [hi.1]; omega
  | ⟨1, _⟩ => show e.val = win1_4.index t 1 * 1000 + 1 * e.val; rw [hi.2]; omega

/-- Which entries of the logits a grid point of the second launch owns. -/
theorem mem1 (t : Fin cfg1.N) (i : S256x1000.Idx) (hi : t.val * 128 ≤ (i 0 : Nat) ∧ (i 0 : Nat) < t.val * 128 + 128) :
    i ∈ ((cfg1.win 4).blk t).view.set := by
  show i ∈ ((View.whole main_v5).slice (win1_4.rect t)).set
  rw [View.set_slice_whole, Rect.mem_set_unit]
  have h1 : (i 1 : Nat) < 1000 := (i 1).isLt
  have e := index1_4 t
  intro a
  match a with
  | ⟨0, _⟩ => show win1_4.index t 0 * 128 ≤ (i 0 : Nat) ∧ (i 0 : Nat) < win1_4.index t 0 * 128 + 128
              rw [e.1]; exact hi
  | ⟨1, _⟩ => show win1_4.index t 1 * 1000 ≤ (i 1 : Nat) ∧ (i 1 : Nat) < win1_4.index t 1 * 1000 + 1000
              rw [e.2]; omega

/-- The second launch's blocks cover the logits. -/
theorem cover1 (i : S256x1000.Idx) : ∃ t : Fin cfg1.N, (cfg1.win 4).flush t = true ∧ i ∈ ((cfg1.win 4).blk t).view.set := by
  have h0 : (i 0 : Nat) < 256 := (i 0).isLt
  refine ⟨⟨(i 0 : Nat) / 128, by show _ < grid1.N; rw [N_1]; omega⟩, flush1_4 _, mem1 _ i ?_⟩
  dsimp only
  omega

/-- The second call leaves the logits. -/
theorem final1 : (dat1 V c).arrAt 4 cfg1.N = logits V c :=
  (dat1 V c).arrAt_eq_of_cover 4 (logits V c) (fun t _ => flushed1 V c t) cover1

end arrays

end Cert.Txt

end
-- ==== Proof.KernelRun.lean ====
module

public import proofs.«01_k».proof.Proof.KernelArrays
public import Idealize.ShloMosaic.Lib.StableHlo.Run
public import Idealize.ShloMosaic.Adequacy

/-! The kernel program's run: from any memory it ends with its result array at the logits of the launched arguments,
    which end as launched. -/

@[expose] public section

set_option maxRecDepth 16384

noncomputable section

namespace Cert.Txt
open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-- An argument array of the launch. -/
abbrev arg (b : Ref sig .tc) : Buf (Elt Ideal) ((c : Thread nD τ).loc b) := m ((c : Thread nD τ).loc b)

/-! ## What the first call finds -/

/-- The norm's scale as the first launch finds it. -/
theorem entry_v0 : V1 m ρ c main_v0 = shapeCast S1x512 (arg m c main_arg4) shapeCasts_S512_S1x512 := rfl
/-- The norm's shift as the first launch finds it. -/
theorem entry_v1 : V1 m ρ c main_v1 = shapeCast S1x512 (arg m c main_arg5) shapeCasts_S512_S1x512 := rfl
/-- The logit scale as the launches find it. -/
theorem entry_v2 : V1 m ρ c main_v2 = shapeCast S1x1 (arg m c main_arg11) shapeCasts_S1_S1x1 := rfl
/-- The joined weight as the first launch finds it. -/
theorem entry_v3 : V1 m ρ c main_v3 = concatenate S512x1024 1 [⟨S512x512, arg m c main_arg7⟩, ⟨S512x512, arg m c main_arg8⟩]
    concatenates_S512x512_S512x512_S512x1024_d1 := rfl

/-- A vector recast as one row keeps its entries. -/
theorem rows_at (x : FVec Ideal S512 .f32) (d : Fin 512) :
    shapeCast S1x512 x shapeCasts_S512_S1x512 (ix2 0 d) = x (ix1 d) := by
  pointwise
/-- The one-entry vector recast as a square keeps its entry. -/
theorem scale_at (x : FVec Ideal S1 .f32) : shapeCast S1x1 x shapeCasts_S1_S1x1 (ix2 0 0) = x (ix1 0) := by
  pointwise

/-- The first half of the joined weight is the key weight. -/
theorem keys_at (x y : FVec Ideal S512x512 .f32) (d e : Fin 512) :
    concatenate S512x1024 1 [⟨S512x512, x⟩, ⟨S512x512, y⟩] concatenates_S512x512_S512x512_S512x1024_d1 (ix2 d ⟨e, lo_lt e⟩)
      = x (ix2 d e) := by
  pointwise
/-- The second half of the joined weight is the value weight. -/
theorem values_at (x y : FVec Ideal S512x512 .f32) (d e : Fin 512) :
    concatenate S512x1024 1 [⟨S512x512, x⟩, ⟨S512x512, y⟩] concatenates_S512x512_S512x512_S512x1024_d1
        (ix2 d ⟨512 + e, hi_lt e⟩) = y (ix2 d e) := by
  pointwise

/-! ## The result as a function of the arguments -/

/-- The arguments that the attention reads hold these real numbers. -/
structure Reals (a2 : FVec Ideal S1000x5x512 .f32) (a3 : FVec Ideal S1000x72x512 .f32) (a4 a5 : FVec Ideal S512 .f32)
    (a6 a7 a8 : FVec Ideal S512x512 .f32) (g b : Row) (wq wk wv : Fin 512 → Row) (cx : Fin 1000 → Fin 5 → Row)
    (s : Fin 1000 → Fin 72 → Row) : Prop where
  hc : ∀ n p d, a2 (ix3 n p d) = (cx n p d : EReal)
  hs : ∀ n p d, a3 (ix3 n p d) = (s n p d : EReal)
  hg : ∀ d, a4 (ix1 d) = (g d : EReal)
  hb : ∀ d, a5 (ix1 d) = (b d : EReal)
  hq : ∀ d e, a6 (ix2 d e) = (wq d e : EReal)
  hk : ∀ d e, a7 (ix2 d e) = (wk d e : EReal)
  hv : ∀ d e, a8 (ix2 d e) = (wv d e : EReal)

/-- The text feature of class `n`, before it is normalised, of the arguments. -/
def txt (a3 : FVec Ideal S1000x72x512 .f32) (a9 a10 : FVec Ideal S512x512 .f32) (g b : Row) (wq wk wv : Fin 512 → Row)
    (cx : Fin 1000 → Fin 5 → Row) (s : Fin 1000 → Fin 72 → Row) (n : Fin 1000) : Fin 512 → EReal :=
  feat (fun i => a3 (ix3 n 71 i)) (kO g b wq wk wv (cx n) (s n)) (fun j i => a9 (ix2 j i)) (fun i e => a10 (ix2 i e))

/-- The kernel's result as a function of the arguments. -/
def result (a0 : FVec Ideal S256x768 .f32) (a1 : FVec Ideal S768x512 .f32) (a3 : FVec Ideal S1000x72x512 .f32)
    (a9 a10 : FVec Ideal S512x512 .f32) (a11 : FVec Ideal S1 .f32) (g b : Row) (wq wk wv : Fin 512 → Row)
    (cx : Fin 1000 → Fin 5 → Row) (s : Fin 1000 → Fin 72 → Row) : FVec Ideal S256x1000 .f32 := fun i =>
  logit (imgFeat a0 a1 (i 0)) (unit (txt a3 a9 a10 g b wq wk wv cx s (i 1))) (a11 (ix1 0))

section value
variable (g b : Row) (wq wk wv : Fin 512 → Row) (cx : Fin 1000 → Fin 5 → Row) (s : Fin 1000 → Fin 72 → Row)
  (h : Reals (arg m c main_arg2) (arg m c main_arg3) (arg m c main_arg4) (arg m c main_arg5) (arg m c main_arg6)
    (arg m c main_arg7) (arg m c main_arg8) g b wq wk wv cx s)

include h in
/-- Under the real arguments, the first launch starts from the model's values. -/
theorem entry_of : Entry (V1 m ρ) c g b wq wk wv cx s where
  hc n p d := (congrFun (W1_args m ρ c main_arg2 (by decide)) _).trans (h.hc n p d)
  hs n p d := (congrFun (W1_args m ρ c main_arg3 (by decide)) _).trans (h.hs n p d)
  hg d := (congrFun (entry_v0 m ρ c) _).trans ((rows_at _ d).trans (h.hg d))
  hb d := (congrFun (entry_v1 m ρ c) _).trans ((rows_at _ d).trans (h.hb d))
  hq d e := (congrFun (W1_args m ρ c main_arg6 (by decide)) _).trans (h.hq d e)
  hk d e := (congrFun (entry_v3 m ρ c) _).trans ((keys_at _ _ d e).trans (h.hk d e))
  hv d e := (congrFun (entry_v3 m ρ c) _).trans ((values_at _ _ d e).trans (h.hv d e))

include h in
/-- What the run leaves in the result array is the result of the arguments. -/
theorem value : logits (V2 m ρ) c = result (arg m c main_arg0) (arg m c main_arg1) (arg m c main_arg3) (arg m c main_arg9)
    (arg m c main_arg10) (arg m c main_arg11) g b wq wk wv cx s := by
  have e0 : V2 m ρ c main_arg0 = arg m c main_arg0 := W2_args m ρ c main_arg0 (by decide)
  have e1 : V2 m ρ c main_arg1 = arg m c main_arg1 := W2_args m ρ c main_arg1 (by decide)
  have e3 : V1 m ρ c main_arg3 = arg m c main_arg3 := W1_args m ρ c main_arg3 (by decide)
  have e9 : V1 m ρ c main_arg9 = arg m c main_arg9 := W1_args m ρ c main_arg9 (by decide)
  have e10 : V1 m ρ c main_arg10 = arg m c main_arg10 := W1_args m ρ c main_arg10 (by decide)
  have e2 : V2 m ρ c main_v2 = V1 m ρ c main_v2 := W2_of_ne m ρ c main_v2 (by decide +kernel)
  have e4 : V2 m ρ c main_v4 = feats (V1 m ρ) c g b wq wk wv cx s :=
    (W2_arr m ρ c 8).trans (final0 (V1 m ρ) c g b wq wk wv cx s (entry_of m ρ c g b wq wk wv cx s h))
  have e11 : V1 m ρ c main_v2 (ix2 0 0) = arg m c main_arg11 (ix1 0) :=
    (congrFun (entry_v2 m ρ c) _).trans (scale_at _)
  funext i
  simp only [logits, result, e0, e1, e2, e4, e11]
  refine congrArg (fun u => logit _ u _) ?_
  simp only [feats, clsFeat, txt, e3, e9, e10]
  rfl

end value

/-! ## The run -/

/-- The result buffer ends as the logits of the second launch. -/
theorem exit_v5 : W3 m ρ c (Proc.devRef .tc main_v5) = logits (V2 m ρ) c := (W3_arr m ρ c 4).trans (final1 (V2 m ρ) c)

section run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (cellOf)

local notation "𝕄" => MT nD τ sig Unit (Elt Ideal) ℕ (UR sig nD τ) ℕ

set_option backward.isDefEq.respectTransparency.types false in
/-- The kernel program ends with its result array at the logits and its arguments as launched. -/
theorem run : θ_run defs (onTc (τ := τ) (main (F := Ideal))) ⟨m, fun _ => 0, ρ⟩ (fun r => ∀ c : Dev nD,
      r.2.mem ((c.tc : Thread nD τ).loc main_v5) = logits (V2 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v5 (by decide))).trans (exit_v5 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end run

end Cert.Txt

end
-- ==== Proof.RefArrays.lean ====
module

public import proofs.«01_k».proof.Proof.Model
public import proofs.«01_k».proof.Proof.Gen.ReferenceIdeal.Run

/-! The stages of the reference's text part as functions of arrays: the tokens put in one array, the layer norm, the
    scaled scores, the softmax, the attributions, and the text feature before it is normalised. The reference goes
    through them twice; the precondition names them too. -/

@[expose] public section

set_option maxRecDepth 16384

noncomputable section

namespace Cert.Txt.Ref
open Idealize.ShloMosaic Cert.ReferenceIdeal Cert.ReferenceIdeal.Gen Cert.ReferenceIdeal.Value

/-- The context tokens followed by the other tokens. -/
def catA (a : FVec Ideal S1000x5x512 .f32) (b : FVec Ideal S1000x72x512 .f32) : FVec Ideal S1000x77x512 .f32 :=
  concatenate S1000x77x512 1 [⟨S1000x5x512, a⟩, ⟨S1000x72x512, b⟩] concatenates_S1000x5x512_S1000x72x512_S1000x77x512_d1

/-- Every token less its mean. -/
def devA (x : FVec Ideal S1000x77x512 .f32) : FVec Ideal S1000x77x512 .f32 :=
  subf x (broadcastInDim S1000x77x512 ![0, 1, 2] bcast_S1000x77x1_S1000x77x512_0_1_2 (Host.divf (broadcastInDim S1000x77x1 ![0, 1] bcast_S1000x77_S1000x77x1_0_1 (Host.reduceAdd x (constant S_ .f32 0x00000000#32) reducesTo_S1000x77x512_S1000x77_d2 h_S_)) (broadcastInDim S1000x77x1 ![] bcast_S_S1000x77x1 (constant S_ .f32 0x44000000#32))))

/-- The number of lanes, as the variance divides by it. -/
def lanesA : FVec Ideal S_ .f32 := subf (constant S_ .f32 0x44000000#32) (sitofp .f32 (constantI S_ 32 0#32))

/-- Every token's variance. -/
def varA (x : FVec Ideal S1000x77x512 .f32) : FVec Ideal S1000x77x1 .f32 :=
  select (broadcastInDim S1000x77x1 ![] bcast_S_S1000x77x1 (cmpf .ogt lanesA (constant S_ .f32 0x00000000#32))) (Host.divf (broadcastInDim S1000x77x1 ![0, 1] bcast_S1000x77_S1000x77x1_0_1 (Host.reduceAdd (mulf (devA x) (devA x)) (constant S_ .f32 0x00000000#32) reducesTo_S1000x77x512_S1000x77_d2 h_S_)) (broadcastInDim S1000x77x1 ![] bcast_S_S1000x77x1 lanesA)) (broadcastInDim S1000x77x1 ![] bcast_S_S1000x77x1 (id (constant S_ .f32 0x7FC00000#32)))

/-- The layer norm of every token. -/
def lnA (x : FVec Ideal S1000x77x512 .f32) (g b : FVec Ideal S512 .f32) : FVec Ideal S1000x77x512 .f32 :=
  addf (mulf (mulf (devA x) (broadcastInDim S1000x77x512 ![0, 1, 2] bcast_S1000x77x1_S1000x77x512_0_1_2 (Host.rsqrt (addf (varA x) (broadcastInDim S1000x77x1 ![] bcast_S_S1000x77x1 (constant S_ .f32 0x3727C5AC#32)))))) (broadcastInDim S1000x77x512 ![0, 1, 2] bcast_S1x1x512_S1000x77x512_0_1_2 (broadcastInDim S1x1x512 ![2] bcast_S512_S1x1x512_2 g))) (broadcastInDim S1000x77x512 ![0, 1, 2] bcast_S1x1x512_S1000x77x512_0_1_2 (broadcastInDim S1x1x512 ![2] bcast_S512_S1x1x512_2 b))

/-- A matrix product of every token, cut into heads. -/
def prA (h : FVec Ideal S1000x77x512 .f32) (w : FVec Ideal S512x512 .f32) : FVec Ideal S1000x77x8x64 .f32 :=
  shapeCast _ (Host.dotGeneral dot_S1000x77x512_S512x512_S1000x77x512_2_0_01_1_n_n none h w) shapeCasts_S1000x77x512_S1000x77x8x64

/-- The scaled scores of every pair of tokens, by head. -/
def scA (h : FVec Ideal S1000x77x512 .f32) (wq wk : FVec Ideal S512x512 .f32) : FVec Ideal S1000x8x77x77 .f32 :=
  Host.divf (Host.dotGeneral dot_S1000x77x8x64_S1000x77x8x64_S1000x8x77x77_3_3_1_1_02_02 none (prA h wq) (prA h wk)) (broadcastInDim S1000x8x77x77 ![] bcast_S_S1000x8x77x77 (Host.sqrt (constant S_ .f32 0x42800000#32)))

/-- The largest score of each row. -/
def rowMax (s : FVec Ideal S1000x8x77x77 .f32) : FVec Ideal S1000x8x77 .f32 :=
  Host.reduce FloatOps.maximumf s (constant S_ .f32 0xFF800000#32) reducesTo_S1000x8x77x77_S1000x8x77_d3 h_S_

/-- The exponential of each score less a number `v` of its row, which is first bounded below by minus infinity. -/
def exOf (s : FVec Ideal S1000x8x77x77 .f32) (v : FVec Ideal S1000x8x77 .f32) : FVec Ideal S1000x8x77x77 .f32 :=
  Host.exp (subf s (broadcastInDim S1000x8x77x77 ![0, 1, 2, 3] bcast_S1000x8x77x1_S1000x8x77x77_0_1_2_3 (broadcastInDim S1000x8x77x1 ![0, 1, 2] bcast_S1000x8x77_S1000x8x77x1_0_1_2 (maximumf (broadcastInDim S1000x8x77 ![] bcast_S_S1000x8x77 (constant S_ .f32 0xFF800000#32)) v))))

/-- The exponential of each score less its row's largest. -/
def exA (s : FVec Ideal S1000x8x77x77 .f32) : FVec Ideal S1000x8x77x77 .f32 := exOf s (rowMax s)

/-- The attention: the exponentials over their row's sum. -/
def smA (s : FVec Ideal S1000x8x77x77 .f32) : FVec Ideal S1000x8x77x77 .f32 :=
  Host.divf (exA s) (broadcastInDim S1000x8x77x77 ![0, 1, 2, 3] bcast_S1000x8x77x1_S1000x8x77x77_0_1_2_3 (broadcastInDim S1000x8x77x1 ![0, 1, 2] bcast_S1000x8x77_S1000x8x77x1_0_1_2 (Host.reduceAdd (exA s) (constant S_ .f32 0x00000000#32) reducesTo_S1000x8x77x77_S1000x8x77_d3 h_S_)))

/-- The last token's attention to the context tokens, the mean over the heads. -/
def amA (a : FVec Ideal S1000x8x77x77 .f32) : FVec Ideal S1000x5 .f32 :=
  shapeCast _ (extractStridedSlice S1000x1x5 ![0, 76, 0] (Host.divf (Host.reduceAdd a (constant S_ .f32 0x00000000#32) reducesTo_S1000x8x77x77_S1000x77x77_d1 h_S_) (broadcastInDim S1000x77x77 ![] bcast_S_S1000x77x77 (constant S_ .f32 0x41000000#32))) slices_S1000x77x77_S1000x1x5_0_76_0) shapeCasts_S1000x1x5_S1000x5

/-- The exponential of each attribution less its class's largest. -/
def ex5A (a : FVec Ideal S1000x5 .f32) : FVec Ideal S1000x5 .f32 :=
  Host.exp (subf a (broadcastInDim S1000x5 ![0, 1] bcast_S1000x1_S1000x5_0_1 (broadcastInDim S1000x1 ![0] bcast_S1000_S1000x1_0 (maximumf (broadcastInDim S1000 ![] bcast_S_S1000 (constant S_ .f32 0xFF800000#32)) (Host.reduce FloatOps.maximumf a (constant S_ .f32 0xFF800000#32) reducesTo_S1000x5_S1000_d1 h_S_)))))

/-- The softmax of the attributions. -/
def sm5A (a : FVec Ideal S1000x5 .f32) : FVec Ideal S1000x5 .f32 :=
  Host.divf (ex5A a) (broadcastInDim S1000x5 ![0, 1] bcast_S1000x1_S1000x5_0_1 (broadcastInDim S1000x1 ![0] bcast_S1000_S1000x1_0 (Host.reduceAdd (ex5A a) (constant S_ .f32 0x00000000#32) reducesTo_S1000x5_S1000_d1 h_S_)))

/-- The context tokens, each multiplied by its attribution. -/
def scaleA (c : FVec Ideal S1000x5x512 .f32) (r : FVec Ideal S1000x5 .f32) : FVec Ideal S1000x5x512 .f32 :=
  mulf c (broadcastInDim S1000x5x512 ![0, 1, 2] bcast_S1000x5x1_S1000x5x512_0_1_2 (broadcastInDim S1000x5x1 ![0, 1] bcast_S1000x5_S1000x5x1_0_1 r))

/-- The attention's values, the heads side by side. -/
def outA (a : FVec Ideal S1000x8x77x77 .f32) (v : FVec Ideal S1000x77x8x64 .f32) : FVec Ideal S1000x77x512 .f32 :=
  shapeCast _ (transpose S1000x77x8x64 [0, 3, 1, 2] (Host.dotGeneral dot_S1000x77x8x64_S1000x8x77x77_S1000x8x64x77_1_3_3_2_02_01 none v a) transposes_S1000x8x64x77_S1000x77x8x64_0_3_1_2) shapeCasts_S1000x77x8x64_S1000x77x512

/-- The text feature before it is normalised: the last token plus the attention's result, projected. -/
def txtA (x o : FVec Ideal S1000x77x512 .f32) (wo pr : FVec Ideal S512x512 .f32) : FVec Ideal S1000x512 .f32 :=
  Host.dotGeneral dot_S1000x512_S512x512_S1000x512_1_0_0_1_n_n none (shapeCast _ (extractStridedSlice S1000x1x512 ![0, 76, 0] (addf x (Host.dotGeneral dot_S1000x77x512_S512x512_S1000x77x512_2_0_01_1_n_n none o wo)) slices_S1000x77x512_S1000x1x512_0_76_0) shapeCasts_S1000x1x512_S1000x512) pr

/-- The text feature of the tokens `x`. -/
def layerA (x : FVec Ideal S1000x77x512 .f32) (g b : FVec Ideal S512 .f32) (wq wk wv wo pr : FVec Ideal S512x512 .f32) :
    FVec Ideal S1000x512 .f32 :=
  txtA x (outA (smA (scA (lnA x g b) wq wk)) (prA (lnA x g b) wv)) wo pr

variable (V0 : Valuation τ sig (Elt Ideal))

/-- The context tokens' attributions, as the reference computes them. -/
theorem v53_eq : res_main_v53 V0 = amA (smA (scA (lnA (catA (V0 (Proc.devRef .tc main_arg2)) (V0 (Proc.devRef .tc main_arg3)))
      (V0 (Proc.devRef .tc main_arg4)) (V0 (Proc.devRef .tc main_arg5))) (V0 (Proc.devRef .tc main_arg6)) (V0 (Proc.devRef .tc main_arg7)))) := rfl

/-- The second pass's tokens, as the reference computes them. -/
theorem v68_eq : res_main_v68 V0 = catA (scaleA (V0 (Proc.devRef .tc main_arg2)) (sm5A (res_main_v53 V0)))
    (V0 (Proc.devRef .tc main_arg3)) := rfl

/-- The text features, as the reference computes them. -/
theorem v115_eq : res_main_v115 V0 = layerA (res_main_v68 V0) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9))
    (V0 (Proc.devRef .tc main_arg10)) := rfl

end Cert.Txt.Ref

end
-- ==== Proof.RefModel.lean ====
module

public import proofs.«01_k».proof.Proof.Model

/-! The quantities the reference computes for one class, as real numbers: `x` holds the class's 77 tokens. -/

@[expose] public section

noncomputable section

namespace Cert.Txt

/-- A head's lane lies below 512. -/
theorem lane_lt (h : Fin 8) (d : Fin 64) : h.val * 64 + d.val < 512 := by omega

/-- Lane `d` of head `h`. -/
def lane (h : Fin 8) (d : Fin 64) : Fin 512 := ⟨h.val * 64 + d.val, lane_lt h d⟩

/-- A lane's head lies below 8. -/
theorem head_lt (e : Fin 512) : e.val / 64 < 8 := by omega

/-- The head a lane belongs to. -/
def head (e : Fin 512) : Fin 8 := ⟨e.val / 64, head_lt e⟩

/-- A context position lies below 77. -/
theorem low_lt (p : Fin 5) : p.val < 77 := by omega

/-- A context token among the 77. -/
def low (p : Fin 5) : Fin 77 := ⟨p.val, low_lt p⟩

/-- A suffix position, moved past the context, lies below 77. -/
theorem high_lt (p : Fin 72) : p.val + 5 < 77 := by omega

/-- Another token among the 77. -/
def high (p : Fin 72) : Fin 77 := ⟨p.val + 5, high_lt p⟩

/-- A position past the context, moved back, lies below 72. -/
theorem sub_lt (p : Fin 77) (h : ¬ p.val < 5) : p.val - 5 < 72 := by omega

/-- Five things followed by 72 others. -/
def cat {α : Type*} (a : Fin 5 → α) (b : Fin 72 → α) (p : Fin 77) : α :=
  if h : p.val < 5 then a ⟨p.val, h⟩ else b ⟨p.val - 5, sub_lt p h⟩

/-- The scaled scores of a head. -/
def rsc (h : Fin 77 → Row) (wq wk : Fin 512 → Row) (i : Fin 8) (p r : Fin 77) : ℝ :=
  (∑ d, proj (h p) wq (lane i d) * proj (h r) wk (lane i d)) / Real.sqrt 64

/-- The attention of a head. -/
def rsm (s : Fin 8 → Fin 77 → Fin 77 → ℝ) (i : Fin 8) (p r : Fin 77) : ℝ :=
  Real.exp (s i p r - top (s i p)) / ∑ r', Real.exp (s i p r' - top (s i p))

/-- The last token's attention to the context tokens, the mean over the heads. -/
def ram (a : Fin 8 → Fin 77 → Fin 77 → ℝ) (p : Fin 5) : ℝ := (∑ i, a i 76 (low p)) / 8

/-- The attention's values for the last token, the heads side by side. -/
def rout (a : Fin 8 → Fin 77 → Fin 77 → ℝ) (v : Fin 77 → Row) (e : Fin 512) : ℝ :=
  ∑ r, v r e * a (head e) 76 r

section oneClass

variable (g b : Row) (wq wk wv : Fin 512 → Row) (c : Fin 5 → Row) (s : Fin 72 → Row)

/-- The attention for the tokens `x`. -/
def rA (x : Fin 77 → Row) : Fin 8 → Fin 77 → Fin 77 → ℝ := rsm (rsc (fun p => ln g b (x p)) wq wk)

/-- The attributions of the context tokens. -/
def rR : Fin 5 → ℝ := soft5 (ram (rA g b wq wk (cat c s)))

/-- The second pass's tokens. -/
def rX : Fin 77 → Row := cat (fun p d => c p d * rR g b wq wk c s p) s

/-- The second pass's attention values for the last token, the heads side by side. -/
def rO : Row :=
  rout (rA g b wq wk (rX g b wq wk c s)) fun p => proj (ln g b (rX g b wq wk c s p)) wv

end oneClass

end Cert.Txt

end
-- ==== Proof.RefStages.lean ====
module

public import proofs.«01_k».proof.Proof.RefArrays
public import proofs.«01_k».proof.Proof.RefModel

/-! The stages of the reference's text part read at an index: the real numbers named in `RefModel`. -/

@[expose] public section

set_option maxRecDepth 16384

noncomputable section

namespace Cert.Txt.Ref
open Idealize.ShloMosaic Cert.ReferenceIdeal Cert.ReferenceIdeal.Gen Cert.ReferenceIdeal.Value

/-- The tokens in one array. -/
theorem catA_at (a : FVec Ideal S1000x5x512 .f32) (b : FVec Ideal S1000x72x512 .f32)
    (c : Fin 1000 → Fin 5 → Row) (s : Fin 1000 → Fin 72 → Row)
    (hc : ∀ n p d, a (ix3 n p d) = (c n p d : EReal)) (hs : ∀ n p d, b (ix3 n p d) = (s n p d : EReal))
    (n : Fin 1000) (p : Fin 77) (d : Fin 512) :
    catA a b (ix3 n p d) = (cat (c n) (s n) p d : EReal) := by
  pointwise [catA]
  simp only [hc, hs, cat]
  split <;> rfl

section norm

variable (x : FVec Ideal S1000x77x512 .f32) (X : Fin 1000 → Fin 77 → Row)
  (hx : ∀ n p d, x (ix3 n p d) = (X n p d : EReal))

include hx in
/-- The tokens less their means. -/
theorem devA_at (n : Fin 1000) (p : Fin 77) (d : Fin 512) : devA x (ix3 n p d) = (dev (X n p) d : EReal) := by
  pointwise [devA]
  simp only [hx, ofBits_512, sum_real]
  rw [div_real (by norm_num), ← EReal.coe_sub]; rfl

include hx in
/-- The tokens' variances. -/
theorem varA_at (n : Fin 1000) (p : Fin 77) : varA x (ix3 n p 0) = (var (X n p) : EReal) := by
  pointwise [varA, lanesA]
  have h0 : FloatOps.sitofp (F := Ideal) FTy.f32 0#32 = ((0 : ℝ) : EReal) := by
    show ((((0#32 : BitVec 32).toInt : ℝ)) : EReal) = _
    simp
  rw [h0, ofBits_512, ← EReal.coe_sub, sub_zero, if_pos (by exact_mod_cast (by norm_num : (0 : ℝ) < 512))]
  simp only [devA_at x X hx, ← EReal.coe_mul, sum_real]
  rw [div_real (by norm_num)]
  rfl

variable (gA bA : FVec Ideal S512 .f32) (g b : Row) (hg : ∀ d, gA (ix1 d) = (g d : EReal))
  (hb : ∀ d, bA (ix1 d) = (b d : EReal))

include hx hg hb in
/-- The layer norm of the tokens. -/
theorem lnA_at (n : Fin 1000) (p : Fin 77) (d : Fin 512) : lnA x gA bA (ix3 n p d) = (ln g b (X n p) d : EReal) := by
  pointwise [lnA]
  simp only [devA_at x X hx, varA_at x X hx, hg, hb, ofBits_eps, ← EReal.coe_add, ← EReal.coe_mul,
    rsqrt_real (var_eps_pos _)]
  rfl

end norm

/-- A token's product, cut into heads. -/
theorem prA_at (h : FVec Ideal S1000x77x512 .f32) (w : FVec Ideal S512x512 .f32) (H : Fin 1000 → Fin 77 → Row)
    (W : Fin 512 → Row) (hh : ∀ n p d, h (ix3 n p d) = (H n p d : EReal)) (hw : ∀ d e, w (ix2 d e) = (W d e : EReal))
    (n : Fin 1000) (p : Fin 77) (i : Fin 8) (d : Fin 64) :
    prA h w (ix4 n p i d) = (proj (H n p) W (lane i d) : EReal) := by
  pointwise [prA]
  simp only [hh, hw, ← EReal.coe_mul, sum_real]
  rfl

/-- The scaled scores. -/
theorem scA_at (h : FVec Ideal S1000x77x512 .f32) (wq wk : FVec Ideal S512x512 .f32) (H : Fin 1000 → Fin 77 → Row)
    (WQ WK : Fin 512 → Row) (hh : ∀ n p d, h (ix3 n p d) = (H n p d : EReal))
    (hq : ∀ d e, wq (ix2 d e) = (WQ d e : EReal)) (hk : ∀ d e, wk (ix2 d e) = (WK d e : EReal))
    (n : Fin 1000) (i : Fin 8) (p r : Fin 77) :
    scA h wq wk (ix4 n i p r) = (rsc (H n) WQ WK i p r : EReal) := by
  pointwise [scA]
  simp only [prA_at h wq H WQ hh hq, prA_at h wk H WK hh hk, ofBits_64, ← EReal.coe_mul, sum_real]
  rw [Ideal.sqrt_coe, if_neg (by norm_num), div_real (Real.sqrt_pos.2 (by norm_num)).ne']
  rfl

section soft

variable (s : FVec Ideal S1000x8x77x77 .f32) (S : Fin 1000 → Fin 8 → Fin 77 → Fin 77 → ℝ)
  (hs : ∀ n i p r, s (ix4 n i p r) = (S n i p r : EReal))

include hs in
/-- The rows' largest scores. -/
theorem rowMax_at (n : Fin 1000) (i : Fin 8) (p : Fin 77) : rowMax s (ix3 n i p) = (top (S n i p) : EReal) := by
  have h : rowMax s (ix3 n i p) = Finset.univ.fold max ⊥ fun r : Fin 77 => s (ix4 n i p r) := by
    pointwise [rowMax]
    rw [ofBits_ninf]
  rw [h, ← max_real]
  exact congrArg (fun f => Finset.univ.fold max ⊥ f) (funext fun r => hs n i p r)

/-- One exponential of a score less the largest of its row. -/
theorem exOf_at (v : FVec Ideal S1000x8x77 .f32) (n : Fin 1000) (i : Fin 8) (p r : Fin 77) :
    exOf s v (ix4 n i p r)
      = Ideal.exp (s (ix4 n i p r) - max (Ideal.ofBits .f32 0xFF800000#32) (v (ix3 n i p))) := by
  pointwise [exOf]

include hs in
/-- The exponentials of the scores less their row's largest. -/
theorem exA_at (n : Fin 1000) (i : Fin 8) (p r : Fin 77) :
    exA s (ix4 n i p r) = (Real.exp (S n i p r - top (S n i p)) : EReal) := by
  unfold exA
  rw [exOf_at, rowMax_at s S hs, hs, ofBits_ninf, max_eq_right bot_le, ← EReal.coe_sub, Ideal.exp_coe]

include hs in
/-- The attention. -/
theorem smA_at (n : Fin 1000) (i : Fin 8) (p r : Fin 77) : smA s (ix4 n i p r) = (rsm (S n) i p r : EReal) := by
  pointwise [smA]
  simp only [exA_at s S hs, sum_real]
  rw [div_real (sum_exp_pos _ _).ne']
  rfl

include hs in
/-- The attributions before the softmax. -/
theorem amA_at (n : Fin 1000) (p : Fin 5) : amA s (ix2 n p) = (ram (S n) p : EReal) := by
  pointwise [amA]
  simp only [hs, ofBits_8, sum_real]
  rw [div_real (by norm_num)]
  rfl

end soft

/-- The attributions. -/
theorem sm5A_at (a : FVec Ideal S1000x5 .f32) (A : Fin 1000 → Fin 5 → ℝ) (ha : ∀ n p, a (ix2 n p) = (A n p : EReal))
    (n : Fin 1000) (p : Fin 5) : sm5A a (ix2 n p) = (soft5 (A n) p : EReal) := by
  pointwise [sm5A, ex5A]
  simp only [ha, ofBits_ninf, max_real, max_eq_right bot_le, ← EReal.coe_sub, Ideal.exp_coe, sum_real]
  rw [div_real (sum_exp_pos _ _).ne']
  rfl

/-- The context tokens multiplied by their attributions. -/
theorem scaleA_at (c : FVec Ideal S1000x5x512 .f32) (r : FVec Ideal S1000x5 .f32) (C : Fin 1000 → Fin 5 → Row)
    (R : Fin 1000 → Fin 5 → ℝ) (hc : ∀ n p d, c (ix3 n p d) = (C n p d : EReal))
    (hr : ∀ n p, r (ix2 n p) = (R n p : EReal)) (n : Fin 1000) (p : Fin 5) (d : Fin 512) :
    scaleA c r (ix3 n p d) = ((C n p d * R n p : ℝ) : EReal) := by
  pointwise [scaleA]
  simp only [hc, hr, ← EReal.coe_mul]

/-- The attention's values. -/
theorem outA_at (a : FVec Ideal S1000x8x77x77 .f32) (v : FVec Ideal S1000x77x8x64 .f32)
    (A : Fin 1000 → Fin 8 → Fin 77 → Fin 77 → ℝ) (V : Fin 1000 → Fin 77 → Row)
    (ha : ∀ n i p r, a (ix4 n i p r) = (A n i p r : EReal))
    (hv : ∀ n p i d, v (ix4 n p i d) = (V n p (lane i d) : EReal)) (n : Fin 1000) (e : Fin 512) :
    outA a v (ix3 n 76 e) = (rout (A n) (V n) e : EReal) := by
  pointwise [outA]
  simp only [ha, hv, ← EReal.coe_mul, sum_real]
  refine congrArg _ (Finset.sum_congr rfl fun r _ => ?_)
  rw [show lane ⟨e.val / 64, head_lt e⟩ ⟨e.val % 64, Nat.mod_lt _ (by norm_num)⟩ = e from
    Fin.ext (by show e.val / 64 * 64 + e.val % 64 = e.val; omega)]
  rfl

/-- The text feature before it is normalised. -/
theorem txtA_at (x o : FVec Ideal S1000x77x512 .f32) (wo pr : FVec Ideal S512x512 .f32) (n : Fin 1000) (e : Fin 512) :
    txtA x o wo pr (ix2 n e)
      = ∑ i : Fin 512, (x (ix3 n 76 i) + ∑ j : Fin 512, o (ix3 n 76 j) * wo (ix2 j i)) * pr (ix2 i e) := by
  pointwise [txtA]

section layer

variable (x : FVec Ideal S1000x77x512 .f32) (gA bA : FVec Ideal S512 .f32) (wqA wkA wvA wo pr : FVec Ideal S512x512 .f32)
  (X : Fin 1000 → Fin 77 → Row) (g b : Row) (wq wk wv : Fin 512 → Row)
  (hx : ∀ n p d, x (ix3 n p d) = (X n p d : EReal)) (hg : ∀ d, gA (ix1 d) = (g d : EReal))
  (hb : ∀ d, bA (ix1 d) = (b d : EReal)) (hq : ∀ d e, wqA (ix2 d e) = (wq d e : EReal))
  (hk : ∀ d e, wkA (ix2 d e) = (wk d e : EReal)) (hv : ∀ d e, wvA (ix2 d e) = (wv d e : EReal))

include hx hg hb hq hk in
/-- The attention for the tokens `x`. -/
theorem attn_at (n : Fin 1000) (i : Fin 8) (p r : Fin 77) :
    smA (scA (lnA x gA bA) wqA wkA) (ix4 n i p r) = (rA g b wq wk (X n) i p r : EReal) :=
  smA_at _ _ (scA_at _ _ _ _ _ _ (lnA_at x X hx gA bA g b hg hb) hq hk) n i p r

include hx hg hb hq hk hv in
/-- The text feature of the tokens `x`. -/
theorem layerA_at (n : Fin 1000) (e : Fin 512) :
    layerA x gA bA wqA wkA wvA wo pr (ix2 n e)
      = ∑ i : Fin 512, ((X n 76 i : EReal)
          + ∑ j : Fin 512, (rout (rA g b wq wk (X n)) (fun p => proj (ln g b (X n p)) wv) j : EReal) * wo (ix2 j i))
            * pr (ix2 i e) := by
  unfold layerA
  rw [txtA_at]
  simp only [outA_at _ _ _ _ (attn_at x gA bA wqA wkA X g b wq wk hx hg hb hq hk)
    (prA_at _ _ _ _ (lnA_at x X hx gA bA g b hg hb) hv), hx]

end layer

end Cert.Txt.Ref

end
-- ==== Proof.Algebra.lean ====
module

public import proofs.«01_k».proof.Proof.RefModel

/-! The kernel's and the reference's second pass give one class the same attention result, as real numbers. The
    kernel takes the second layer norm from the first one's result by a factor and the shift, and the products with
    the three matrices the same way; it sums over all the lanes under the heads' mask; and it subtracts other
    numbers before the exponentials. -/

@[expose] public section

noncomputable section

namespace Cert.Txt

/-- Joined rows at a context position read the context. -/
theorem cat_low {α : Type*} (a : Fin 5 → α) (b : Fin 72 → α) (p : Fin 5) : cat a b (low p) = a p := by
  unfold cat low
  rw [dif_pos p.isLt]

/-- Joined rows at a suffix position read the suffix. -/
theorem cat_high {α : Type*} (a : Fin 5 → α) (b : Fin 72 → α) (p : Fin 72) : cat a b (high p) = b p := by
  unfold cat high
  rw [dif_neg (by show ¬ p.val + 5 < 5; omega)]
  exact congrArg b (Fin.ext (by show p.val + 5 - 5 = p.val; omega))

/-- The last joined position is the last suffix position. -/
theorem cat_last {α : Type*} (a : Fin 5 → α) (b : Fin 72 → α) : cat a b 76 = b 71 := cat_high a b 71

/-- A function that agrees with both parts is the joined function. -/
theorem cat_ext {α : Type*} (f : Fin 77 → α) (a : Fin 5 → α) (b : Fin 72 → α) (ha : ∀ p, f (low p) = a p)
    (hb : ∀ p, f (high p) = b p) : f = cat a b := by
  funext p
  by_cases h : p.val < 5
  · have : p = low ⟨p.val, h⟩ := rfl
    rw [this, ha, cat_low]
  · have : p = high ⟨p.val - 5, sub_lt p h⟩ := Fin.ext (by show p.val = p.val - 5 + 5; omega)
    rw [this, hb, cat_high]

/-- A sum over the 77 tokens is the sum over the context tokens plus the sum over the others. -/
theorem sum_77 (f : Fin 77 → ℝ) : ∑ p, f p = ∑ p, f (low p) + ∑ p, f (high p) := by
  have h := Fin.sum_univ_add (M := ℝ) (a := 5) (b := 72) f
  rw [h]
  refine congrArg₂ (· + ·) (Finset.sum_congr rfl fun p _ => congrArg f (Fin.ext rfl))
    (Finset.sum_congr rfl fun p _ => congrArg f (Fin.ext ?_))
  show 5 + p.val = p.val + 5
  omega

/-- A sum over the lanes, head by head. -/
theorem sum_lanes (f : Fin 512 → ℝ) : ∑ e, f e = ∑ h, ∑ d, f (lane h d) := by
  rw [← Fintype.sum_prod_type']
  rw [← (finProdFinEquiv (m := 8) (n := 64)).sum_comp]
  refine Finset.sum_congr rfl fun x _ => congrArg f (Fin.ext ?_)
  show x.2.val + 64 * x.1.val = x.1.val * 64 + x.2.val
  omega

/-- The mask of a head is one on that head's lanes and zero on the others. -/
theorem mask_lane (h i : Fin 8) (d : Fin 64) : mask h (lane i d) = if i = h then 1 else 0 := by
  unfold mask lane
  have : (i.val * 64 + d.val) / 64 = i.val := by omega
  simp only [this, Fin.ext_iff]

/-- The mask cuts a sum over the lanes down to one head. -/
theorem sum_mask (f : Fin 512 → ℝ) (h : Fin 8) : ∑ e, f e * mask h e = ∑ d, f (lane h d) := by
  rw [sum_lanes, Finset.sum_eq_single h]
  · exact Finset.sum_congr rfl fun d _ => by rw [mask_lane, if_pos rfl, mul_one]
  · intro i _ hi
    exact Finset.sum_eq_zero fun d _ => by rw [mask_lane, if_neg hi, mul_zero]
  · intro h'; exact absurd (Finset.mem_univ _) h'

/-- The masks of the heads pick the lane's own. -/
theorem sum_heads (f : Fin 8 → ℝ) (e : Fin 512) : ∑ h, f h * mask h e = f (head e) := by
  rw [Finset.sum_eq_single (head e)]
  · unfold mask head; rw [if_pos rfl, mul_one]
  · intro i _ hi
    unfold mask
    rw [if_neg (fun h => hi (Fin.ext h.symm)), mul_zero]
  · intro h'; exact absurd (Finset.mem_univ _) h'

/-- A score under the mask is the head's scaled score. -/
theorem masked_score (q k : Row) (h : Fin 8) :
    ∑ e, qm q h e * k e = (∑ d, q (lane h d) * k (lane h d)) / Real.sqrt 64 := by
  rw [← sum_mask (fun e => q e * k e) h, Finset.sum_div]
  refine Finset.sum_congr rfl fun e _ => ?_
  unfold qm
  rw [div_eq_mul_inv]
  ring

/-- The sum of the exponentials of the 5 and the 72 scores. -/
def nz (a : Fin 5 → ℝ) (b : Fin 72 → ℝ) : ℝ := ∑ p, Real.exp (a p) + ∑ s, Real.exp (b s)

/-- The sum of exponentials over both parts is positive. -/
theorem nz_pos (a : Fin 5 → ℝ) (b : Fin 72 → ℝ) : 0 < nz a b :=
  add_pos (Finset.sum_pos (fun _ _ => Real.exp_pos _) Finset.univ_nonempty)
    (Finset.sum_pos (fun _ _ => Real.exp_pos _) Finset.univ_nonempty)

/-- The shifted sum of exponentials is the plain sum divided by the exponential of the shift. -/
theorem zz_eq (m : ℝ) (a : Fin 5 → ℝ) (b : Fin 72 → ℝ) : zz m a b = nz a b / Real.exp m := by
  unfold zz nz
  simp only [Real.exp_sub, ← Finset.sum_div, ← add_div]

/-- A softmax does not depend on the number subtracted before the exponentials. -/
theorem shift (m x : ℝ) (a : Fin 5 → ℝ) (b : Fin 72 → ℝ) :
    Real.exp (x - m) / zz m a b = Real.exp x / nz a b := by
  rw [zz_eq, Real.exp_sub, div_div_div_cancel_right₀ (Real.exp_pos m).ne']

/-- The reference's attention of the last token, from its scores. -/
theorem rsm_eq (s : Fin 8 → Fin 77 → Fin 77 → ℝ) (h : Fin 8) (a : Fin 5 → ℝ) (b : Fin 72 → ℝ)
    (hs : s h 76 = cat a b) (r : Fin 77) : rsm s h 76 r = Real.exp (cat a b r) / nz a b := by
  unfold rsm
  rw [hs, sum_77, ← shift (top (cat a b)) _ a b]
  simp only [cat_low, cat_high]
  rfl

section second

variable (g b x : Row) (r : ℝ)

/-- The mean of a scaled row is the scaled mean. -/
theorem mean_scale : mean (fun d => x d * r) = mean x * r := by
  unfold mean
  rw [← Finset.sum_mul]
  ring

/-- The deviation of a scaled row is the scaled deviation. -/
theorem dev_scale (d : Fin 512) : dev (fun d => x d * r) d = dev x d * r := by
  unfold dev
  rw [mean_scale]
  ring

/-- The variance of a scaled row is scaled by the square. -/
theorem var_scale : var (fun d => x d * r) = r * r * var x := by
  unfold var
  simp only [dev_scale]
  rw [← mul_div_assoc, Finset.mul_sum]
  refine congrArg (· / 512) (Finset.sum_congr rfl fun d _ => ?_)
  ring

/-- The layer norm of a multiple of a token, from the token's own. -/
theorem ln_scale (d : Fin 512) :
    ln g b (fun d => x d * r) d
      = r * (Real.sqrt (r * r * var x + eps))⁻¹ / (Real.sqrt (var x + eps))⁻¹ * (ln g b x d - b d) + b d := by
  have h : Real.sqrt (var x + eps) ≠ 0 := (Real.sqrt_pos.2 (var_eps_pos x)).ne'
  unfold ln
  rw [dev_scale, var_scale]
  field_simp
  ring

end second

/-- A product is linear in the token. -/
theorem proj_affine (h b : Row) (t : ℝ) (w : Fin 512 → Row) (e : Fin 512) :
    proj (fun d => t * (h d - b d) + b d) w e = t * (proj h w e - proj b w e) + proj b w e := by
  unfold proj
  rw [← Finset.sum_sub_distrib, Finset.mul_sum, ← Finset.sum_add_distrib]
  exact Finset.sum_congr rfl fun d _ => by ring

section oneClass

variable (g b : Row) (wq wk wv : Fin 512 → Row) (c : Fin 5 → Row) (s : Fin 72 → Row)

/-- The last token's scores in the first pass. -/
theorem rsc_first (h : Fin 8) :
    rsc (fun p => ln g b (cat c s p)) wq wk h 76 = cat (kA g b wq wk c s h) (kB g b wq wk s h) := by
  refine cat_ext _ _ _ (fun p => ?_) fun p => ?_
  · unfold rsc kA sc kQ
    rw [masked_score]; beta_reduce; rw [cat_last, cat_low]
  · unfold rsc kB sc kQ
    rw [masked_score]; beta_reduce; rw [cat_last, cat_high]

/-- The attributions agree. -/
theorem rR_eq : rR g b wq wk c s = kR g b wq wk c s := by
  unfold rR kR
  refine congrArg soft5 (funext fun p => ?_)
  unfold ram am rA
  refine congrArg (· / 8) (Finset.sum_congr rfl fun h _ => ?_)
  rw [rsm_eq _ h _ _ (rsc_first g b wq wk c s h), cat_low, shift]

/-- The second layer norm of a context token, from the first. -/
theorem ln_second (p : Fin 5) :
    ln g b (rX g b wq wk c s (low p))
      = fun d => kT g b wq wk c s p * (ln g b (c p) d - b d) + b d := by
  funext d
  unfold rX
  rw [cat_low, rR_eq]
  exact ln_scale g b (c p) (kR g b wq wk c s p) d

/-- The other tokens are the same in both passes. -/
theorem rX_high (p : Fin 72) : rX g b wq wk c s (high p) = s p := by unfold rX; rw [cat_high]

/-- The reference's last joined row is the last suffix row. -/
theorem rX_last : rX g b wq wk c s 76 = s 71 := by unfold rX; rw [cat_last]

/-- The last token's scores in the second pass. -/
theorem rsc_second (h : Fin 8) :
    rsc (fun p => ln g b (rX g b wq wk c s p)) wq wk h 76 = cat (kS g b wq wk c s h) (kB g b wq wk s h) := by
  refine cat_ext _ _ _ (fun p => ?_) fun p => ?_
  · unfold rsc kS s2 kA sc uu kQ
    rw [masked_score, masked_score]; beta_reduce; rw [rX_last, ln_second]
    simp only [proj_affine]
    rw [← sub_div, ← Finset.sum_sub_distrib, mul_div_assoc', Finset.mul_sum, ← add_div, ← Finset.sum_add_distrib]
    exact congrArg (· / Real.sqrt 64) (Finset.sum_congr rfl fun d _ => by ring)
  · unfold rsc kB sc kQ
    rw [masked_score]; beta_reduce; rw [rX_last, rX_high]

/-- The attention results agree. -/
theorem rO_eq : rO g b wq wk wv c s = kO g b wq wk wv c s := by
  funext e
  unfold kO mix
  rw [sum_heads]
  unfold hv rO rout rA
  rw [sum_77]
  have hz : ∀ h, ∑ p, Real.exp (kS g b wq wk c s h p - kM g b wq wk c s h)
      + ∑ p, Real.exp (kB g b wq wk s h p - kM g b wq wk c s h)
      = zz (kM g b wq wk c s h) (kS g b wq wk c s h) (kB g b wq wk s h) := fun h => rfl
  simp only [rsm_eq _ _ _ _ (rsc_second g b wq wk c s (head e)), cat_low, cat_high, hz, shift, ln_second, rX_high,
    proj_affine]
  rw [← Finset.sum_sub_distrib, Finset.sum_mul, add_right_comm, ← Finset.sum_add_distrib]
  refine congrArg₂ (· + ·) (Finset.sum_congr rfl fun p _ => ?_) (Finset.sum_congr rfl fun p _ => ?_)
  · ring
  · ring

end oneClass

end Cert.Txt

end
-- ==== Proof.RefResult.lean ====
module

public import proofs.«01_k».proof.Proof.KernelRun
public import proofs.«01_k».proof.Proof.RefStages
public import proofs.«01_k».proof.Proof.Algebra

/-! The reference's text features and its result at an index, and their agreement with the kernel's when no feature
    is zero. -/

@[expose] public section

set_option maxRecDepth 16384

noncomputable section

namespace Cert.Txt.Ref
open Idealize.ShloMosaic Cert.ReferenceIdeal Cert.ReferenceIdeal.Gen Cert.ReferenceIdeal.Value

/-- Division by the square root of a positive number is multiplication by its inverse square root. -/
theorem div_sqrt (x S : EReal) (h : 0 < S) : Ideal.div x (Ideal.sqrt S) = x * Ideal.rsqrt S := by
  induction S with
  | bot => exact absurd h (by simp)
  | top => show Ideal.div x ⊤ = x * 0; rw [Ideal.div, if_neg (by simp)]; simp
  | coe s =>
    have hs : 0 < s := by exact_mod_cast h
    have hq : Real.sqrt s ≠ 0 := (Real.sqrt_pos.mpr hs).ne'
    rw [rsqrt_real hs, Ideal.sqrt_coe, if_neg hs.not_gt, Ideal.div_coe hq, one_div]

/-- The reference's result from the features before they are normalised. -/
def resA (im : FVec Ideal S256x512 .f32) (tx : FVec Ideal S1000x512 .f32) (l : FVec Ideal S1 .f32) : FVec Ideal S256x1000 .f32 :=
  mulf (broadcastInDim S256x1000 ![] bcast_S_S256x1000 (Host.exp (shapeCast _ l shapeCasts_S1_S_))) (Host.dotGeneral dot_S256x512_S512x1000_S256x1000_1_0_0_1_n_n none (Host.divf im (broadcastInDim S256x512 ![0, 1] bcast_S256x1_S256x512_0_1 (Host.sqrt (broadcastInDim S256x1 ![0] bcast_S256_S256x1_0 (Host.reduceAdd (mulf im im) (constant S_ .f32 0x00000000#32) reducesTo_S256x512_S256_d1 h_S_))))) (transpose S512x1000 [1, 0] (Host.divf tx (broadcastInDim S1000x512 ![0, 1] bcast_S1000x1_S1000x512_0_1 (Host.sqrt (broadcastInDim S1000x1 ![0] bcast_S1000_S1000x1_0 (Host.reduceAdd (mulf tx tx) (constant S_ .f32 0x00000000#32) reducesTo_S1000x512_S1000_d1 h_S_))))) transposes_S1000x512_S512x1000_1_0))

/-- One entry of the reference's result from its features. -/
theorem resA_at (im : FVec Ideal S256x512 .f32) (tx : FVec Ideal S1000x512 .f32) (l : FVec Ideal S1 .f32)
    (him : ∀ r, 0 < ∑ e : Fin 512, im (ix2 r e) * im (ix2 r e)) (htx : ∀ n, 0 < ∑ e : Fin 512, tx (ix2 n e) * tx (ix2 n e))
    (r : Fin 256) (n : Fin 1000) :
    resA im tx l (ix2 r n) = logit (fun e => im (ix2 r e)) (unit fun e => tx (ix2 n e)) (l (ix1 0)) := by
  pointwise [resA]
  simp only [div_sqrt _ _ (him r), div_sqrt _ _ (htx n)]
  unfold logit unit
  rw [mul_comm]

section text

variable (a0 : FVec Ideal S256x768 .f32) (a1 : FVec Ideal S768x512 .f32)
  (a2 : FVec Ideal S1000x5x512 .f32) (a3 : FVec Ideal S1000x72x512 .f32) (a4 a5 : FVec Ideal S512 .f32)
  (a6 a7 a8 a9 a10 : FVec Ideal S512x512 .f32) (a11 : FVec Ideal S1 .f32)
  (g b : Row) (wq wk wv : Fin 512 → Row) (cx : Fin 1000 → Fin 5 → Row) (s : Fin 1000 → Fin 72 → Row)
  (h : Reals a2 a3 a4 a5 a6 a7 a8 g b wq wk wv cx s)

/-- The first pass's attention. -/
def firstA : FVec Ideal S1000x8x77x77 .f32 := smA (scA (lnA (catA a2 a3) a4 a5) a6 a7)

include h in
/-- One entry of the first attention's weights. -/
theorem firstA_at (n : Fin 1000) (i : Fin 8) (p r : Fin 77) :
    firstA a2 a3 a4 a5 a6 a7 (ix4 n i p r) = (rA g b wq wk (cat (cx n) (s n)) i p r : EReal) :=
  attn_at _ _ _ _ _ (fun n => cat (cx n) (s n)) _ _ _ _ (catA_at a2 a3 cx s h.hc h.hs) h.hg h.hb h.hq h.hk n i p r

/-- The text features when the context tokens are multiplied by `r`. -/
def textOf (r : FVec Ideal S1000x5 .f32) : FVec Ideal S1000x512 .f32 := layerA (catA (scaleA a2 r) a3) a4 a5 a6 a7 a8 a9 a10

include h in
/-- With the attributions as factors the text features are the kernel's. -/
theorem textOf_at (r : FVec Ideal S1000x5 .f32) (hr : ∀ n p, r (ix2 n p) = (rR g b wq wk (cx n) (s n) p : EReal))
    (n : Fin 1000) (e : Fin 512) :
    textOf a2 a3 a4 a5 a6 a7 a8 a9 a10 r (ix2 n e) = txt a3 a9 a10 g b wq wk wv cx s n e := by
  unfold textOf
  rw [layerA_at _ _ _ _ _ _ _ _ (fun n => rX g b wq wk (cx n) (s n)) g b wq wk wv
    (catA_at _ _ _ s (scaleA_at a2 r cx (fun n => rR g b wq wk (cx n) (s n)) h.hc hr) h.hs) h.hg h.hb h.hq h.hk h.hv]
  unfold txt feat
  rw [← rO_eq]
  refine Finset.sum_congr rfl fun i _ => ?_
  rw [rX_last, ← h.hs]
  rfl

include h in
/-- The reference's attributions. -/
theorem attr_at (n : Fin 1000) (p : Fin 5) :
    sm5A (amA (firstA a2 a3 a4 a5 a6 a7)) (ix2 n p) = (rR g b wq wk (cx n) (s n) p : EReal) :=
  sm5A_at _ (fun n => ram (rA g b wq wk (cat (cx n) (s n))))
    (amA_at _ _ (firstA_at a2 a3 a4 a5 a6 a7 a8 g b wq wk wv cx s h)) n p

/-- The image features. -/
def imgA : FVec Ideal S256x512 .f32 := Host.dotGeneral dot_S256x768_S768x512_S256x512_1_0_0_1_n_n none a0 a1

/-- One entry of the reference's image features. -/
theorem imgA_at (r : Fin 256) (e : Fin 512) : imgA a0 a1 (ix2 r e) = imgFeat a0 a1 r e := by
  pointwise [imgA]
  rfl

include h in
/-- When no feature is zero the reference's result is the kernel's. -/
theorem result_eq (him : ∀ r, 0 < ∑ e : Fin 512, imgFeat a0 a1 r e * imgFeat a0 a1 r e)
    (htx : ∀ n, 0 < ∑ e : Fin 512, txt a3 a9 a10 g b wq wk wv cx s n e * txt a3 a9 a10 g b wq wk wv cx s n e) :
    resA (imgA a0 a1) (textOf a2 a3 a4 a5 a6 a7 a8 a9 a10 (sm5A (amA (firstA a2 a3 a4 a5 a6 a7)))) a11
      = result a0 a1 a3 a9 a10 a11 g b wq wk wv cx s := by
  have ht := textOf_at a2 a3 a4 a5 a6 a7 a8 a9 a10 g b wq wk wv cx s h _
    (attr_at a2 a3 a4 a5 a6 a7 a8 g b wq wk wv cx s h)
  funext i
  obtain ⟨r, n, rfl⟩ : ∃ (r : Fin 256) (n : Fin 1000), i = ix2 r n := ⟨i 0, i 1, by funext a; fin_cases a <;> rfl⟩
  rw [resA_at _ _ _ (by simpa only [imgA_at] using him) (by simpa only [ht] using htx)]
  simp only [imgA_at, ht]
  rfl

end text

end Cert.Txt.Ref

end
-- ==== Proof.Pre.lean ====
module

public import proofs.«01_k».proof.Proof.RefResult
public import proofs.«01_k».proof.Proof.Gen.Pre_finite_and_nonzero

/-! The precondition read: the seven arrays the attention reads are finite, and no image or text feature is zero. -/

@[expose] public section

set_option maxRecDepth 16384

noncomputable section

namespace Cert.Txt.Pre
open Idealize.ShloMosaic Cert.Pre_finite_and_nonzero Cert.Pre_finite_and_nonzero.Gen Cert.Txt.Ref

/-! ## The attributions as the precondition writes them -/

/-- The last token's attention to the context tokens, the mean over the heads, the heads added one after another. -/
def meanP (a : FVec Ideal S1000x8x77x77 .f32) : FVec Ideal S1000x1x5 .f32 :=
  shapeCast S1000x1x5 (extractStridedSlice S1000x1x1x5 ![0, 0, 76, 0] (Host.divf
    (addf (addf (addf (addf (addf (addf (addf (addf
      (broadcastInDim S1000x1x77x77 ![] bcast_S_S1000x1x77x77 (constant S_ .f32 0x00000000#32))
      (extractStridedSlice S1000x1x77x77 ![0, 0, 0, 0] a slices_S1000x8x77x77_S1000x1x77x77_0_0_0_0))
      (extractStridedSlice S1000x1x77x77 ![0, 1, 0, 0] a slices_S1000x8x77x77_S1000x1x77x77_0_1_0_0))
      (extractStridedSlice S1000x1x77x77 ![0, 2, 0, 0] a slices_S1000x8x77x77_S1000x1x77x77_0_2_0_0))
      (extractStridedSlice S1000x1x77x77 ![0, 3, 0, 0] a slices_S1000x8x77x77_S1000x1x77x77_0_3_0_0))
      (extractStridedSlice S1000x1x77x77 ![0, 4, 0, 0] a slices_S1000x8x77x77_S1000x1x77x77_0_4_0_0))
      (extractStridedSlice S1000x1x77x77 ![0, 5, 0, 0] a slices_S1000x8x77x77_S1000x1x77x77_0_5_0_0))
      (extractStridedSlice S1000x1x77x77 ![0, 6, 0, 0] a slices_S1000x8x77x77_S1000x1x77x77_0_6_0_0))
      (extractStridedSlice S1000x1x77x77 ![0, 7, 0, 0] a slices_S1000x8x77x77_S1000x1x77x77_0_7_0_0))
    (broadcastInDim S1000x1x77x77 ![] bcast_S_S1000x1x77x77 (constant S_ .f32 0x41000000#32)))
    slices_S1000x1x77x77_S1000x1x1x5_0_0_76_0) shapeCasts_S1000x1x1x5_S1000x1x5

/-- The exponential of each attribution less its class's largest. -/
def expP (a : FVec Ideal S1000x1x5 .f32) : FVec Ideal S1000x1x5 .f32 :=
  Host.exp (subf a (broadcastInDim S1000x1x5 ![0, 1, 2] bcast_S1000x1x1_S1000x1x5_0_1_2
    (broadcastInDim S1000x1x1 ![0, 1] bcast_S1000x1_S1000x1x1_0_1
      (maximumf (broadcastInDim S1000x1 ![] bcast_S_S1000x1 (constant S_ .f32 0xFF800000#32))
        (Host.reduce FloatOps.maximumf a (constant S_ .f32 0xFF800000#32) reducesTo_S1000x1x5_S1000x1_d2 h_S_)))))

/-- The softmax of the attributions. -/
def softP (a : FVec Ideal S1000x1x5 .f32) : FVec Ideal S1000x5 .f32 :=
  shapeCast S1000x5 (Host.divf (expP a) (broadcastInDim S1000x1x5 ![0, 1, 2] bcast_S1000x1x1_S1000x1x5_0_1_2
    (broadcastInDim S1000x1x1 ![0, 1] bcast_S1000x1_S1000x1x1_0_1
      (Host.reduceAdd (expP a) (constant S_ .f32 0x00000000#32) reducesTo_S1000x1x5_S1000x1_d2 h_S_))))
    shapeCasts_S1000x1x5_S1000x5

/-- One entry of the mean over heads. -/
theorem meanP_at (a : FVec Ideal S1000x8x77x77 .f32) (A : Fin 1000 → Fin 8 → Fin 77 → Fin 77 → ℝ)
    (ha : ∀ n i p r, a (ix4 n i p r) = (A n i p r : EReal)) (n : Fin 1000) (p : Fin 5) :
    meanP a (ix3 n 0 p) = (ram (A n) p : EReal) := by
  pointwise [meanP]
  simp only [ha, ofBits_8]
  rw [ram, Fin.sum_univ_eight]
  simp only [← EReal.coe_add]
  rw [div_real (by norm_num)]
  rfl

/-- One entry of the softmax over context positions. -/
theorem softP_at (a : FVec Ideal S1000x1x5 .f32) (A : Fin 1000 → Fin 5 → ℝ) (ha : ∀ n p, a (ix3 n 0 p) = (A n p : EReal))
    (n : Fin 1000) (p : Fin 5) : softP a (ix2 n p) = (soft5 (A n) p : EReal) := by
  pointwise [softP, expP]
  simp only [ha, ofBits_ninf, max_real, max_eq_right bot_le, ← EReal.coe_sub, Ideal.exp_coe, sum_real]
  rw [div_real (sum_exp_pos _ _).ne']
  rfl

end Cert.Txt.Pre

end
-- ==== Proof.PreRead.lean ====
module

public import proofs.«01_k».proof.Proof.Pre

/-! The precondition's nine conditions, each as a statement of the argument arrays. -/

@[expose] public section

set_option maxRecDepth 16384

noncomputable section

namespace Cert.Txt.Pre
open Idealize.ShloMosaic Cert.Pre_finite_and_nonzero Cert.Pre_finite_and_nonzero.Gen Cert.Txt.Ref

/-- No row of the image features is zero. -/
def posI (x : FVec Ideal S256x512 .f32) : IVec S256 1 :=
  cmpf .ogt (Host.reduceAdd (mulf x x) (constant S_ .f32 0x00000000#32) reducesTo_S256x512_S256_d1 h_S_)
    (broadcastInDim S256 ![] bcast_S_S256 (constant S_ .f32 0x00000000#32))

/-- No row of the text features is zero. -/
def posT (x : FVec Ideal S1000x512 .f32) : IVec S1000 1 :=
  cmpf .ogt (Host.reduceAdd (mulf x x) (constant S_ .f32 0x00000000#32) reducesTo_S1000x512_S1000_d1 h_S_)
    (broadcastInDim S1000 ![] bcast_S_S1000 (constant S_ .f32 0x00000000#32))

/-- Every entry is finite. -/
def finC (x : FVec Ideal S1000x5x512 .f32) : IVec S1000x5x512 1 :=
  cmpf .olt (Host.absf x) (broadcastInDim S1000x5x512 ![] bcast_S_S1000x5x512 (constant S_ .f32 0x7F800000#32))
/-- Every entry is finite. -/
def finS (x : FVec Ideal S1000x72x512 .f32) : IVec S1000x72x512 1 :=
  cmpf .olt (Host.absf x) (broadcastInDim S1000x72x512 ![] bcast_S_S1000x72x512 (constant S_ .f32 0x7F800000#32))
/-- Every entry is finite. -/
def finR (x : FVec Ideal S512 .f32) : IVec S512 1 :=
  cmpf .olt (Host.absf x) (broadcastInDim S512 ![] bcast_S_S512 (constant S_ .f32 0x7F800000#32))
/-- Every entry is finite. -/
def finM (x : FVec Ideal S512x512 .f32) : IVec S512x512 1 :=
  cmpf .olt (Host.absf x) (broadcastInDim S512x512 ![] bcast_S_S512x512 (constant S_ .f32 0x7F800000#32))

variable (a0 : FVec Ideal S256x768 .f32) (a1 : FVec Ideal S768x512 .f32)
  (a2 : FVec Ideal S1000x5x512 .f32) (a3 : FVec Ideal S1000x72x512 .f32) (a4 a5 : FVec Ideal S512 .f32)
  (a6 a7 a8 a9 a10 : FVec Ideal S512x512 .f32) (a11 : FVec Ideal S1 .f32)

/-- The precondition's nine conditions. -/
theorem fn_eq : fn (F := Ideal) a0 a1 a2 a3 a4 a5 a6 a7 a8 a9 a10 a11
    = (finC a2, finS a3, finR a4, finR a5, finM a6, finM a7, finM a8, posI (imgA a0 a1),
        posT (textOf a2 a3 a4 a5 a6 a7 a8 a9 a10 (softP (meanP (firstA a2 a3 a4 a5 a6 a7))))) := rfl

/-! ## What the conditions say -/

/-- A number whose absolute value is less than infinity is a real number. -/
theorem real_of (x : EReal) (h : Ideal.cmp .olt (max x (-x)) ⊤ = 1#1) : x = (x.toReal : EReal) := by
  have h' : max x (-x) < ⊤ := by
    by_contra hn
    have hd : Ideal.cmp .olt (max x (-x)) ⊤ = 0#1 := by
      unfold Ideal.cmp
      simp only [decide_eq_false hn]
      rfl
    rw [hd] at h
    exact absurd h (by decide)
  refine (EReal.coe_toReal ?_ ?_).symm
  · rintro rfl; simp at h'
  · rintro rfl; simp at h'

/-- The comparison with zero. -/
theorem pos_of (x : EReal) (h : Ideal.cmp .ogt x 0 = 1#1) : 0 < x := by
  by_contra hn
  have hd : Ideal.cmp .ogt x 0 = 0#1 := by
    unfold Ideal.cmp
    simp only [decide_eq_false hn]
    rfl
  rw [hd] at h
  exact absurd h (by decide)

/-- If the context check holds, its entries are real. -/
theorem finC_at (x : FVec Ideal S1000x5x512 .f32) (h : finC x = fun _ => 1#1) (n : Fin 1000) (p : Fin 5) (d : Fin 512) :
    x (ix3 n p d) = ((x (ix3 n p d)).toReal : EReal) := by
  have e := congrFun h (ix3 n p d)
  revert e
  pointwise [finC]
  simp only [ofBits_inf]
  exact real_of _

/-- If the suffix check holds, its entries are real. -/
theorem finS_at (x : FVec Ideal S1000x72x512 .f32) (h : finS x = fun _ => 1#1) (n : Fin 1000) (p : Fin 72) (d : Fin 512) :
    x (ix3 n p d) = ((x (ix3 n p d)).toReal : EReal) := by
  have e := congrFun h (ix3 n p d)
  revert e
  pointwise [finS]
  simp only [ofBits_inf]
  exact real_of _

/-- If the vector check holds, its entries are real. -/
theorem finR_at (x : FVec Ideal S512 .f32) (h : finR x = fun _ => 1#1) (d : Fin 512) :
    x (ix1 d) = ((x (ix1 d)).toReal : EReal) := by
  have e := congrFun h (ix1 d)
  revert e
  pointwise [finR]
  simp only [ofBits_inf]
  exact real_of _

/-- If the matrix check holds, its entries are real. -/
theorem finM_at (x : FVec Ideal S512x512 .f32) (h : finM x = fun _ => 1#1) (d e : Fin 512) :
    x (ix2 d e) = ((x (ix2 d e)).toReal : EReal) := by
  have e := congrFun h (ix2 d e)
  revert e
  pointwise [finM]
  simp only [ofBits_inf]
  exact real_of _

/-- If the image check holds, each image row has a positive sum of squares. -/
theorem posI_at (x : FVec Ideal S256x512 .f32) (h : posI x = fun _ => 1#1) (r : Fin 256) :
    0 < ∑ e : Fin 512, x (ix2 r e) * x (ix2 r e) := by
  have e := congrFun h (ix1 r)
  revert e
  pointwise [posI]
  exact pos_of _

/-- If the text check holds, each text row has a positive sum of squares. -/
theorem posT_at (x : FVec Ideal S1000x512 .f32) (h : posT x = fun _ => 1#1) (n : Fin 1000) :
    0 < ∑ e : Fin 512, x (ix2 n e) * x (ix2 n e) := by
  have e := congrFun h (ix1 n)
  revert e
  pointwise [posT]
  exact pos_of _

/-- Under the precondition the arrays the attention reads hold real numbers, and no image or text feature is zero. -/
theorem holds_of (h : (fn (F := Ideal) a0 a1 a2 a3 a4 a5 a6 a7 a8 a9 a10 a11).1 = (fun _ => 1#1)
      ∧ (fn (F := Ideal) a0 a1 a2 a3 a4 a5 a6 a7 a8 a9 a10 a11).2.1 = (fun _ => 1#1)
      ∧ (fn (F := Ideal) a0 a1 a2 a3 a4 a5 a6 a7 a8 a9 a10 a11).2.2.1 = (fun _ => 1#1)
      ∧ (fn (F := Ideal) a0 a1 a2 a3 a4 a5 a6 a7 a8 a9 a10 a11).2.2.2.1 = (fun _ => 1#1)
      ∧ (fn (F := Ideal) a0 a1 a2 a3 a4 a5 a6 a7 a8 a9 a10 a11).2.2.2.2.1 = (fun _ => 1#1)
      ∧ (fn (F := Ideal) a0 a1 a2 a3 a4 a5 a6 a7 a8 a9 a10 a11).2.2.2.2.2.1 = (fun _ => 1#1)
      ∧ (fn (F := Ideal) a0 a1 a2 a3 a4 a5 a6 a7 a8 a9 a10 a11).2.2.2.2.2.2.1 = (fun _ => 1#1)
      ∧ (fn (F := Ideal) a0 a1 a2 a3 a4 a5 a6 a7 a8 a9 a10 a11).2.2.2.2.2.2.2.1 = (fun _ => 1#1)
      ∧ (fn (F := Ideal) a0 a1 a2 a3 a4 a5 a6 a7 a8 a9 a10 a11).2.2.2.2.2.2.2.2 = (fun _ => 1#1)) :
    ∃ (g b : Row) (wq wk wv : Fin 512 → Row) (cx : Fin 1000 → Fin 5 → Row) (s : Fin 1000 → Fin 72 → Row),
      Reals a2 a3 a4 a5 a6 a7 a8 g b wq wk wv cx s
      ∧ (∀ r, 0 < ∑ e : Fin 512, imgFeat a0 a1 r e * imgFeat a0 a1 r e)
      ∧ ∀ n, 0 < ∑ e : Fin 512, txt a3 a9 a10 g b wq wk wv cx s n e * txt a3 a9 a10 g b wq wk wv cx s n e := by
  rw [fn_eq] at h
  obtain ⟨h2, h3, h4, h5, h6, h7, h8, hi, ht⟩ := h
  have hR : Reals a2 a3 a4 a5 a6 a7 a8 (fun d => (a4 (ix1 d)).toReal) (fun d => (a5 (ix1 d)).toReal)
      (fun d e => (a6 (ix2 d e)).toReal) (fun d e => (a7 (ix2 d e)).toReal) (fun d e => (a8 (ix2 d e)).toReal)
      (fun n p d => (a2 (ix3 n p d)).toReal) (fun n p d => (a3 (ix3 n p d)).toReal) :=
    ⟨finC_at a2 h2, finS_at a3 h3, finR_at a4 h4, finR_at a5 h5, finM_at a6 h6, finM_at a7 h7, finM_at a8 h8⟩
  refine ⟨_, _, _, _, _, _, _, hR, fun r => ?_, fun n => ?_⟩
  · have := posI_at _ hi r
    simpa only [imgA_at] using this
  · have := posT_at _ ht n
    simpa only [textOf_at a2 a3 a4 a5 a6 a7 a8 a9 a10 _ _ _ _ _ _ _ hR _ (softP_at _ _
      (meanP_at _ _ (firstA_at a2 a3 a4 a5 a6 a7 a8 _ _ _ _ _ _ _ hR)))] using this

end Cert.Txt.Pre

end
-- ==== Proof.Equation.lean ====
module

public import proofs.«01_k».proof.Proof.PreRead
public import proofs.«01_k».proof.Defs

/-! The two programs end with the same result: the kernel program's run and the reference's, put beside each other. -/

@[expose] public section

set_option maxRecDepth 16384

noncomputable section

namespace Cert.Txt
open Idealize.ShloMosaic Idealize.ShloMosaic.TcCoe Idealize.SL.Sem

section reference
open Cert.ReferenceIdeal Cert.ReferenceIdeal.Gen Cert.ReferenceIdeal.Value Cert.Txt.Ref
variable (V0 : Valuation τ sig (Elt Ideal))

/-- The reference's text features as a function of the arguments. -/
theorem text_eq : res_main_v115 V0 = textOf (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (sm5A (amA (firstA (V0 (Proc.devRef .tc main_arg2)) (V0 (Proc.devRef .tc main_arg3))
      (V0 (Proc.devRef .tc main_arg4)) (V0 (Proc.devRef .tc main_arg5)) (V0 (Proc.devRef .tc main_arg6))
      (V0 (Proc.devRef .tc main_arg7))))) := by
  rw [v115_eq, v68_eq, v53_eq]
  rfl

/-- The reference's image features as a function of the arguments. -/
theorem image_eq : res_main_v0 V0 = imgA (V0 (Proc.devRef .tc main_arg0)) (V0 (Proc.devRef .tc main_arg1)) := rfl

/-- The reference's result as a function of its features. -/
theorem result_of (im : FVec Ideal S256x512 .f32) (tx : FVec Ideal S1000x512 .f32) (hi : res_main_v0 V0 = im)
    (ht : res_main_v115 V0 = tx) : resA (res_main_v0 V0) (res_main_v115 V0) (V0 (Proc.devRef .tc main_arg11))
      = resA im tx (V0 (Proc.devRef .tc main_arg11)) := by rw [hi, ht]

end reference

section equation

variable (m : (ℓ : Loc Cert.KernelIdeal.nD Cert.KernelIdeal.τ Cert.KernelIdeal.sig) → Buf (Elt Ideal) ℓ)
  (g : Dev Cert.KernelIdeal.nD → PrngReg)
  (V0 : Valuation Cert.ReferenceIdeal.τ Cert.ReferenceIdeal.sig (Elt Ideal)) (c : Dev Cert.KernelIdeal.nD)

/-- At equal arguments the reference's result is what the kernel program leaves. -/
theorem result_at (hpre : ∃ (g b : Row) (wq wk wv : Fin 512 → Row) (cx : Fin 1000 → Fin 5 → Row) (s : Fin 1000 → Fin 72 → Row),
      Reals (arg m c Cert.KernelIdeal.main_arg2) (arg m c Cert.KernelIdeal.main_arg3) (arg m c Cert.KernelIdeal.main_arg4)
        (arg m c Cert.KernelIdeal.main_arg5) (arg m c Cert.KernelIdeal.main_arg6) (arg m c Cert.KernelIdeal.main_arg7)
        (arg m c Cert.KernelIdeal.main_arg8) g b wq wk wv cx s
      ∧ (∀ r, 0 < ∑ e : Fin 512, imgFeat (arg m c Cert.KernelIdeal.main_arg0) (arg m c Cert.KernelIdeal.main_arg1) r e
          * imgFeat (arg m c Cert.KernelIdeal.main_arg0) (arg m c Cert.KernelIdeal.main_arg1) r e)
      ∧ ∀ n, 0 < ∑ e : Fin 512, txt (arg m c Cert.KernelIdeal.main_arg3) (arg m c Cert.KernelIdeal.main_arg9)
            (arg m c Cert.KernelIdeal.main_arg10) g b wq wk wv cx s n e
          * txt (arg m c Cert.KernelIdeal.main_arg3) (arg m c Cert.KernelIdeal.main_arg9)
            (arg m c Cert.KernelIdeal.main_arg10) g b wq wk wv cx s n e)
    (e0 : V0 (Proc.devRef .tc Cert.ReferenceIdeal.main_arg0) = arg m c Cert.KernelIdeal.main_arg0)
    (e1 : V0 (Proc.devRef .tc Cert.ReferenceIdeal.main_arg1) = arg m c Cert.KernelIdeal.main_arg1)
    (e2 : V0 (Proc.devRef .tc Cert.ReferenceIdeal.main_arg2) = arg m c Cert.KernelIdeal.main_arg2)
    (e3 : V0 (Proc.devRef .tc Cert.ReferenceIdeal.main_arg3) = arg m c Cert.KernelIdeal.main_arg3)
    (e4 : V0 (Proc.devRef .tc Cert.ReferenceIdeal.main_arg4) = arg m c Cert.KernelIdeal.main_arg4)
    (e5 : V0 (Proc.devRef .tc Cert.ReferenceIdeal.main_arg5) = arg m c Cert.KernelIdeal.main_arg5)
    (e6 : V0 (Proc.devRef .tc Cert.ReferenceIdeal.main_arg6) = arg m c Cert.KernelIdeal.main_arg6)
    (e7 : V0 (Proc.devRef .tc Cert.ReferenceIdeal.main_arg7) = arg m c Cert.KernelIdeal.main_arg7)
    (e8 : V0 (Proc.devRef .tc Cert.ReferenceIdeal.main_arg8) = arg m c Cert.KernelIdeal.main_arg8)
    (e9 : V0 (Proc.devRef .tc Cert.ReferenceIdeal.main_arg9) = arg m c Cert.KernelIdeal.main_arg9)
    (e10 : V0 (Proc.devRef .tc Cert.ReferenceIdeal.main_arg10) = arg m c Cert.KernelIdeal.main_arg10)
    (e11 : V0 (Proc.devRef .tc Cert.ReferenceIdeal.main_arg11) = arg m c Cert.KernelIdeal.main_arg11) :
    Ref.resA (Cert.ReferenceIdeal.Value.res_main_v0 V0) (Cert.ReferenceIdeal.Value.res_main_v115 V0)
        (V0 (Proc.devRef .tc Cert.ReferenceIdeal.main_arg11))
      = logits (Cert.KernelIdeal.Gen.V2 m g) c := by
  obtain ⟨gg, b, wq, wk, wv, cx, s, hR, him, htx⟩ := hpre
  rw [value m g c gg b wq wk wv cx s hR]
  refine Eq.trans ?_ (Ref.result_eq _ _ _ _ _ _ _ _ _ _ _ _ gg b wq wk wv cx s hR him htx)
  refine (result_of V0 _ _ (image_eq V0) (text_eq V0)).trans ?_
  rw [e0, e1, e2, e3, e4, e5, e6, e7, e8, e9, e10, e11]

end equation

/-- Under the precondition the kernel program and the reference end with the same result. -/
theorem equal : Cert.algebraic_KernelIdeal_ReferenceIdeal_pre_finite_and_nonzero := by
  intro m g m' g' hpre hargs
  refine ⟨fun c => logits (Cert.KernelIdeal.Gen.V2 m g) c, run m g, ?_⟩
  refine (θ_run Cert.ReferenceIdeal.defs _ _).mono (fun r h c => ⟨(h c).1.trans ?_, (h c).2⟩)
    (Cert.ReferenceIdeal.Value.run m' g')
  obtain ⟨e0, e1, e2, e3, e4, e5, e6, e7, e8, e9, e10, e11⟩ := hargs c
  exact result_at m g (StableHlo.launchContents m' c) c (Pre.holds_of _ _ _ _ _ _ _ _ _ _ _ _ (hpre c))
    e0 e1 e2 e3 e4 e5 e6 e7 e8 e9 e10 e11

end Cert.Txt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_nonzero
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to the end with its arguments unchanged and every counter at zero. -/
theorem referenceFrame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The claims: the three programs run with their arguments unchanged, the idealization is sanctioned, and under the
    precondition the kernel's result at exact arithmetic is the reference's. -/
theorem claim : Cert.Claim := ⟨Cert.Kernel.Gen.facts, Cert.KernelIdeal.Gen.facts, Cert.ReferenceIdeal.Gen.facts,
  Cert.Pre_finite_and_nonzero.Gen.facts,
  fun m ρ _ => Cert.Kernel.Gen.frame m ρ, fun m ρ _ => Cert.KernelIdeal.Gen.frame m ρ,
  fun m ρ _ => Cert.KernelIdeal.Gen.frame m ρ, referenceFrame, fun m g _ => referenceFrame m g trivial, trivial,
  Cert.Txt.equal⟩

end Cert.Proof

end
